-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .f32) (main_arg1 : FVec F S768x512 .f32) (main_arg2 : FVec F S2x512x64x64 .f32) (main_arg3 : FVec F S2x512x64x64 .f32) (main_arg4 : FVec F S512x768 .f32) : IVec S2x512x768 1 × IVec S768x512 1 × IVec S2x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Pre_finite_ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x4096x768 : S_.BroadcastsInDim S2x4096x768 (![] : Fin 0 → Fin S2x4096x768.rank)
  bcast_S_S768x4096 : S_.BroadcastsInDim S768x4096 (![] : Fin 0 → Fin S768x4096.rank)
  bcast_S_S2x512x64x64 : S_.BroadcastsInDim S2x512x64x64 (![] : Fin 0 → Fin S2x512x64x64.rank)

variable [Facts]

def fn {F : FTy → Type} [FloatOps F] (main_arg0 : FVec F S2x4096x768 .f32) (main_arg1 : FVec F S768x4096 .f32) (main_arg2 : FVec F S2x512x64x64 .f32) (main_arg3 : FVec F S2x512x64x64 .f32) (main_arg4 : FVec F S4096x768 .f32) : IVec S2x4096x768 1 × IVec S768x4096 1 × IVec S2x512x64x64 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S2x512x8x512 : Shape := ⟨4, ![2, 512, 8, 512]⟩
abbrev S8x2x512x512 : Shape := ⟨4, ![8, 2, 512, 512]⟩
abbrev S8x768x512 : Shape := ⟨3, ![8, 768, 512]⟩
abbrev S8x512x768 : Shape := ⟨3, ![8, 512, 768]⟩
abbrev S2x2x512x512 : Shape := ⟨4, ![2, 2, 512, 512]⟩
abbrev S8 : Shape := ⟨1, ![8]⟩
abbrev S2 : Shape := ⟨1, ![2]⟩
abbrev S1 : Shape := ⟨1, ![1]⟩
abbrev S_ : Shape := ⟨0, ![]⟩
abbrev S1x2x512x512 : Shape := ⟨4, ![1, 2, 512, 512]⟩
abbrev S2x512x512 : Shape := ⟨3, ![2, 512, 512]⟩
abbrev S1x768x512 : Shape := ⟨3, ![1, 768, 512]⟩
abbrev S1x512x768 : Shape := ⟨3, ![1, 512, 768]⟩
abbrev S512x512 : Shape := ⟨2, ![512, 512]⟩
abbrev S1x1x512x512 : Shape := ⟨4, ![1, 1, 512, 512]⟩
abbrev S512x64 : Shape := ⟨2, ![512, 64]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S2x512x768, .bf16⟩
  | .hbm, ⟨6, _⟩ => ⟨S768x512, .bf16⟩
  | .hbm, ⟨7, _⟩ => ⟨S512x768, .bf16⟩
  | .hbm, ⟨8, _⟩ => ⟨S2x512x8x512, .f32⟩
  | .hbm, ⟨9, _⟩ => ⟨S8x2x512x512, .f32⟩
  | .hbm, ⟨10, _⟩ => ⟨S8x2x512x512, .bf16⟩
  | .hbm, ⟨11, _⟩ => ⟨S2x512x8x512, .f32⟩
  | .hbm, ⟨12, _⟩ => ⟨S8x2x512x512, .f32⟩
  | .hbm, ⟨13, _⟩ => ⟨S8x2x512x512, .bf16⟩
  | .hbm, ⟨14, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S8x768x512, .bf16⟩
  | .local _ .vmem, ⟨5, _⟩ => ⟨S8x512x768, .bf16⟩
  | .local _ .vmem, ⟨6, _⟩ => ⟨S2x2x512x512, .bf16⟩
  | .local _ .vmem, ⟨7, _⟩ => ⟨S2x2x512x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let c0_i32_19 : BitVec 32 := 0#32
  let c0_i32_20 : BitVec 32 := 0#32
  ![v2.toNat, 0, 0, 0]
def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30 : BitVec 32 := 1#32
  let v38 : BitVec 32 := Scalar.muli v13 c1_i32_30
  let v39 : BitVec 32 := Scalar.addi c0_i32_31 v38
  v39.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v40 : BitVec 32 := Scalar.muli v24 c1_i32_33
  let v41 : BitVec 32 := Scalar.addi c0_i32_34 v40
  v41.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v42 : BitVec 32 := Scalar.muli v24 c1_i32_35
  let v43 : BitVec 32 := Scalar.addi c0_i32_36 v42
  v43.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_41 : BitVec 32 := 0#32
  let c0_i32_42 : BitVec 32 := 0#32
  ![v2.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v50 : BitVec 32 := Scalar.muli v24 c1_i32_39
  let v51 : BitVec 32 := Scalar.addi c0_i32_40 v50
  v51.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v58 : BitVec 32 := Scalar.muli v13 c1_i32_43
  let v59 : BitVec 32 := Scalar.addi c0_i32_44 v58
  v59.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_47 : BitVec 32 := 1#32
  let v66 : BitVec 32 := Scalar.muli v13 c1_i32_47
  let v67 : BitVec 32 := Scalar.addi c0_i32_48 v66
  v67.toNat
def k0_off5 (d0 : Dev nD) (c0_i32_77 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v165 : BitVec 32 := Scalar.addi v2 c0_i32_77
  let c8_i32_78 : BitVec 32 := 8#32
  let c0_i32_79 : BitVec 32 := 0#32
  let v166 : BitVec 1 := Scalar.cmpi .eq c8_i32_78 c0_i32_79
  let c1_i32_80 : BitVec 32 := 1#32
  let v167 : BitVec 32 := Scalar.select v166 c1_i32_80 c8_i32_78
  let v168 : BitVec 32 := Scalar.remsi v165 v167
  let c0_i32_82 : BitVec 32 := 0#32
  let v170 : BitVec 1 := Scalar.cmpi .slt v168 c0_i32_82
  let c0_i32_83 : BitVec 32 := 0#32
  let v171 : BitVec 1 := Scalar.cmpi .slt v167 c0_i32_83
  let v172 : BitVec 1 := Scalar.xori v170 v171
  let c0_i32_81 : BitVec 32 := 0#32
  let v169 : BitVec 1 := Scalar.cmpi .ne v168 c0_i32_81
  let v173 : BitVec 1 := Scalar.andi v172 v169
  let v174 : BitVec 32 := Scalar.addi v168 v167
  let v175 : BitVec 32 := Scalar.select v173 v174 v168
  let c0_i32_92 : BitVec 32 := 0#32
  let c0_i32_93 : BitVec 32 := 0#32
  let c0_i32_94 : BitVec 32 := 0#32
  ![v175.toNat, 0, 0, 0]
def k0_off5_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_off6 (d0 : Dev nD) (c_m1_i32_214 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v475 : BitVec 32 := Scalar.addi v2 c_m1_i32_214
  let c8_i32_215 : BitVec 32 := 8#32
  let c0_i32_216 : BitVec 32 := 0#32
  let v476 : BitVec 1 := Scalar.cmpi .eq c8_i32_215 c0_i32_216
  let c1_i32_217 : BitVec 32 := 1#32
  let v477 : BitVec 32 := Scalar.select v476 c1_i32_217 c8_i32_215
  let v478 : BitVec 32 := Scalar.remsi v475 v477
  let c0_i32_219 : BitVec 32 := 0#32
  let v480 : BitVec 1 := Scalar.cmpi .slt v478 c0_i32_219
  let c0_i32_220 : BitVec 32 := 0#32
  let v481 : BitVec 1 := Scalar.cmpi .slt v477 c0_i32_220
  let v482 : BitVec 1 := Scalar.xori v480 v481
  let c0_i32_218 : BitVec 32 := 0#32
  let v479 : BitVec 1 := Scalar.cmpi .ne v478 c0_i32_218
  let v483 : BitVec 1 := Scalar.andi v482 v479
  let v484 : BitVec 32 := Scalar.addi v478 v477
  let v485 : BitVec 32 := Scalar.select v483 v484 v478
  ![v485.toNat]
def k0_off6_at (r : Fin 8) : BitVec 32 :=
  if r.val < 4 then
    if r.val < 2 then
      if r.val < 1 then
        4294967295#32
      else
        1#32
    else
      if r.val < 3 then
        4294967294#32
      else
        2#32
  else
    if r.val < 6 then
      if r.val < 5 then
        4294967293#32
      else
        3#32
    else
      if r.val < 7 then
        4#32
      else
        0#32
def k0_off7 (d0 : Dev nD) (c_m1_i32_214 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v475 : BitVec 32 := Scalar.addi v2 c_m1_i32_214
  let c8_i32_215 : BitVec 32 := 8#32
  let c0_i32_216 : BitVec 32 := 0#32
  let v476 : BitVec 1 := Scalar.cmpi .eq c8_i32_215 c0_i32_216
  let c1_i32_217 : BitVec 32 := 1#32
  let v477 : BitVec 32 := Scalar.select v476 c1_i32_217 c8_i32_215
  let v478 : BitVec 32 := Scalar.remsi v475 v477
  let c0_i32_219 : BitVec 32 := 0#32
  let v480 : BitVec 1 := Scalar.cmpi .slt v478 c0_i32_219
  let c0_i32_220 : BitVec 32 := 0#32
  let v481 : BitVec 1 := Scalar.cmpi .slt v477 c0_i32_220
  let v482 : BitVec 1 := Scalar.xori v480 v481
  let c0_i32_218 : BitVec 32 := 0#32
  let v479 : BitVec 1 := Scalar.cmpi .ne v478 c0_i32_218
  let v483 : BitVec 1 := Scalar.andi v482 v479
  let v484 : BitVec 32 := Scalar.addi v478 v477
  let v485 : BitVec 32 := Scalar.select v483 v484 v478
  let c0_i32_223 : BitVec 32 := 0#32
  let c0_i32_224 : BitVec 32 := 0#32
  ![v485.toNat, 0, 0]
def k0_off7_at (r : Fin 8) : BitVec 32 :=
  if r.val < 4 then
    if r.val < 2 then
      if r.val < 1 then
        4294967295#32
      else
        1#32
    else
      if r.val < 3 then
        4294967294#32
      else
        2#32
  else
    if r.val < 6 then
      if r.val < 5 then
        4294967293#32
      else
        3#32
    else
      if r.val < 7 then
        4#32
      else
        0#32
def k0_off8 (d0 : Dev nD) (c_m1_i32_214 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v475 : BitVec 32 := Scalar.addi v2 c_m1_i32_214
  let c8_i32_215 : BitVec 32 := 8#32
  let c0_i32_216 : BitVec 32 := 0#32
  let v476 : BitVec 1 := Scalar.cmpi .eq c8_i32_215 c0_i32_216
  let c1_i32_217 : BitVec 32 := 1#32
  let v477 : BitVec 32 := Scalar.select v476 c1_i32_217 c8_i32_215
  let v478 : BitVec 32 := Scalar.remsi v475 v477
  let c0_i32_219 : BitVec 32 := 0#32
  let v480 : BitVec 1 := Scalar.cmpi .slt v478 c0_i32_219
  let c0_i32_220 : BitVec 32 := 0#32
  let v481 : BitVec 1 := Scalar.cmpi .slt v477 c0_i32_220
  let v482 : BitVec 1 := Scalar.xori v480 v481
  let c0_i32_218 : BitVec 32 := 0#32
  let v479 : BitVec 1 := Scalar.cmpi .ne v478 c0_i32_218
  let v483 : BitVec 1 := Scalar.andi v482 v479
  let v484 : BitVec 32 := Scalar.addi v478 v477
  let v485 : BitVec 32 := Scalar.select v483 v484 v478
  let c0_i32_229 : BitVec 32 := 0#32
  let c0_i32_230 : BitVec 32 := 0#32
  ![v485.toNat, 0, 0]
def k0_off8_at (r : Fin 8) : BitVec 32 :=
  if r.val < 4 then
    if r.val < 2 then
      if r.val < 1 then
        4294967295#32
      else
        1#32
    else
      if r.val < 3 then
        4294967294#32
      else
        2#32
  else
    if r.val < 6 then
      if r.val < 5 then
        4294967293#32
      else
        3#32
    else
      if r.val < 7 then
        4#32
      else
        0#32
def k0_dev7 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_233 : BitVec 32 := 1#32
  let v502 : BitVec 32 := Scalar.muli v24 c1_i32_233
  let v503 : BitVec 32 := Scalar.addi c0_i32_234 v502
  v503.toNat
def k0_dev8 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_239 : BitVec 32 := 1#32
  let v512 : BitVec 32 := Scalar.muli v24 c1_i32_239
  let v513 : BitVec 32 := Scalar.addi c0_i32_240 v512
  v513.toNat
def k0_off9 (d0 : Dev nD) (c_m1_i32_214 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v475 : BitVec 32 := Scalar.addi v2 c_m1_i32_214
  let c8_i32_215 : BitVec 32 := 8#32
  let c0_i32_216 : BitVec 32 := 0#32
  let v476 : BitVec 1 := Scalar.cmpi .eq c8_i32_215 c0_i32_216
  let c1_i32_217 : BitVec 32 := 1#32
  let v477 : BitVec 32 := Scalar.select v476 c1_i32_217 c8_i32_215
  let v478 : BitVec 32 := Scalar.remsi v475 v477
  let c0_i32_219 : BitVec 32 := 0#32
  let v480 : BitVec 1 := Scalar.cmpi .slt v478 c0_i32_219
  let c0_i32_220 : BitVec 32 := 0#32
  let v481 : BitVec 1 := Scalar.cmpi .slt v477 c0_i32_220
  let v482 : BitVec 1 := Scalar.xori v480 v481
  let c0_i32_218 : BitVec 32 := 0#32
  let v479 : BitVec 1 := Scalar.cmpi .ne v478 c0_i32_218
  let v483 : BitVec 1 := Scalar.andi v482 v479
  let v484 : BitVec 32 := Scalar.addi v478 v477
  let v485 : BitVec 32 := Scalar.select v483 v484 v478
  let v522 : Index := Scalar.indexCast v485
  let c0_245 : Index := 0#32
  let c0_246 : Index := 0#32
  ![v522.toNat, 0, 0]
def k0_off9_at (r : Fin 7) : BitVec 32 :=
  if r.val < 3 then
    if r.val < 1 then
      4294967295#32
    else
      if r.val < 2 then
        1#32
      else
        4294967294#32
  else
    if r.val < 5 then
      if r.val < 4 then
        2#32
      else
        4294967293#32
    else
      if r.val < 6 then
        3#32
      else
        4#32
def k0_off10 (d0 : Dev nD) (c_m1_i32_214 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v475 : BitVec 32 := Scalar.addi v2 c_m1_i32_214
  let c8_i32_215 : BitVec 32 := 8#32
  let c0_i32_216 : BitVec 32 := 0#32
  let v476 : BitVec 1 := Scalar.cmpi .eq c8_i32_215 c0_i32_216
  let c1_i32_217 : BitVec 32 := 1#32
  let v477 : BitVec 32 := Scalar.select v476 c1_i32_217 c8_i32_215
  let v478 : BitVec 32 := Scalar.remsi v475 v477
  let c0_i32_219 : BitVec 32 := 0#32
  let v480 : BitVec 1 := Scalar.cmpi .slt v478 c0_i32_219
  let c0_i32_220 : BitVec 32 := 0#32
  let v481 : BitVec 1 := Scalar.cmpi .slt v477 c0_i32_220
  let v482 : BitVec 1 := Scalar.xori v480 v481
  let c0_i32_218 : BitVec 32 := 0#32
  let v479 : BitVec 1 := Scalar.cmpi .ne v478 c0_i32_218
  let v483 : BitVec 1 := Scalar.andi v482 v479
  let v484 : BitVec 32 := Scalar.addi v478 v477
  let v485 : BitVec 32 := Scalar.select v483 v484 v478
  let v525 : Index := Scalar.indexCast v485
  let c0_247 : Index := 0#32
  let c0_248 : Index := 0#32
  ![v525.toNat, 0, 0]
def k0_off10_at (r : Fin 7) : BitVec 32 :=
  if r.val < 3 then
    if r.val < 1 then
      4294967295#32
    else
      if r.val < 2 then
        1#32
      else
        4294967294#32
  else
    if r.val < 5 then
      if r.val < 4 then
        2#32
      else
        4294967293#32
    else
      if r.val < 6 then
        3#32
      else
        4#32
def k0_dev9 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_397 : BitVec 32 := 1#32
  let v852 : BitVec 32 := Scalar.muli v13 c1_i32_397
  let v853 : BitVec 32 := Scalar.addi c0_i32_398 v852
  v853.toNat
def k0_dev10 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_403 : BitVec 32 := 1#32
  let v862 : BitVec 32 := Scalar.muli v13 c1_i32_403
  let v863 : BitVec 32 := Scalar.addi c0_i32_404 v862
  v863.toNat
def k0_dev11 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_560 : BitVec 32 := 1#32
  let v1202 : BitVec 32 := Scalar.muli v24 c1_i32_560
  let v1203 : BitVec 32 := Scalar.addi c0_i32_561 v1202
  v1203.toNat
def k0_dev12 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_566 : BitVec 32 := 1#32
  let v1212 : BitVec 32 := Scalar.muli v24 c1_i32_566
  let v1213 : BitVec 32 := Scalar.addi c0_i32_567 v1212
  v1213.toNat
def k0_dev13 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_724 : BitVec 32 := 1#32
  let v1552 : BitVec 32 := Scalar.muli v13 c1_i32_724
  let v1553 : BitVec 32 := Scalar.addi c0_i32_725 v1552
  v1553.toNat
def k0_dev14 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_730 : BitVec 32 := 1#32
  let v1562 : BitVec 32 := Scalar.muli v13 c1_i32_730
  let v1563 : BitVec 32 := Scalar.addi c0_i32_731 v1562
  v1563.toNat
def k0_dev15 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1038 : BitVec 32 := 1#32
  let v2232 : BitVec 32 := Scalar.muli v13 c1_i32_1038
  let v2233 : BitVec 32 := Scalar.addi c0_i32_1039 v2232
  v2233.toNat
def k0_dev16 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1044 : BitVec 32 := 1#32
  let v2242 : BitVec 32 := Scalar.muli v13 c1_i32_1044
  let v2243 : BitVec 32 := Scalar.addi c0_i32_1045 v2242
  v2243.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S2x4096x4096 : Shape := ⟨3, ![2, 4096, 4096]⟩
abbrev S2x4096x64x64 : Shape := ⟨4, ![2, 4096, 64, 64]⟩
abbrev S4096 : Shape := ⟨1, ![4096]⟩
abbrev S_ : Shape := ⟨0, ![]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S2x64x4096x512 : Shape := ⟨4, ![2, 64, 4096, 512]⟩
abbrev S1x1x4096x512 : Shape := ⟨4, ![1, 1, 4096, 512]⟩
abbrev S2x64x4096 : Shape := ⟨3, ![2, 64, 4096]⟩
abbrev S2x64x4096x1 : Shape := ⟨4, ![2, 64, 4096, 1]⟩
abbrev S1x1x4096x1 : Shape := ⟨4, ![1, 1, 4096, 1]⟩
abbrev S2x64x64x4096 : Shape := ⟨4, ![2, 64, 64, 4096]⟩

abbrev nBuf : Space → Nat
  | .hbm => 137
  | .vmem => 0
  | .smem => 0
  | _ => 0

abbrev hbmTy0_0 (i : Nat) : BufTy := match i % 128 with
  | 0 => ⟨S2x4096x768, .f32⟩
  | 1 => ⟨S768x4096, .f32⟩
  | 2 => ⟨S2x512x64x64, .f32⟩
  | 3 => ⟨S2x512x64x64, .f32⟩
  | 4 => ⟨S4096x768, .f32⟩
  | 5 => ⟨S2x4096x4096, .f32⟩
  | 6 => ⟨S2x4096x64x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S4096x512, .i32⟩
  | 48 => ⟨S4096x512, .i32⟩
  | 49 => ⟨S4096x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S_, .i32⟩
  | 84 => ⟨S4096x1, .i32⟩
  | 85 => ⟨S4096x1, .i1⟩
  | 86 => ⟨S_, .i32⟩
  | 87 => ⟨S_, .i1⟩
  | 88 => ⟨S4096x1, .i1⟩
  | 89 => ⟨S4096x1, .i1⟩
  | 90 => ⟨S4096x1, .i1⟩
  | 91 => ⟨S4096x1, .i32⟩
  | 92 => ⟨S4096x1, .i32⟩
  | 93 => ⟨S4096x1, .i32⟩
  | 94 => ⟨S4096x512, .i32⟩
  | 95 => ⟨S4096x512, .i32⟩
  | 96 => ⟨S4096x512, .i1⟩
  | 97 => ⟨S4096x512, .i1⟩
  | 98 => ⟨S2x64x4096x512, .f32⟩
  | 99 => ⟨S_, .f32⟩
  | 100 => ⟨S2x64x4096x512, .f32⟩
  | 101 => ⟨S2x64x4096x512, .f32⟩
  | 102 => ⟨S1x1x4096x512, .i1⟩
  | 103 => ⟨S_, .f32⟩
  | 104 => ⟨S_, .f32⟩
  | 105 => ⟨S2x64x4096x512, .i1⟩
  | 106 => ⟨S2x64x4096x512, .f32⟩
  | 107 => ⟨S2x64x4096x512, .f32⟩
  | 108 => ⟨S_, .f32⟩
  | 109 => ⟨S2x64x4096, .f32⟩
  | 110 => ⟨S2x64x4096x1, .f32⟩
  | 111 => ⟨S2x64x4096x512, .f32⟩
  | 112 => ⟨S2x64x4096x512, .f32⟩
  | 113 => ⟨S2x64x4096x512, .f32⟩
  | 114 => ⟨S_, .i1⟩
  | 115 => ⟨S4096, .i1⟩
  | 116 => ⟨S1x1x4096x1, .i1⟩
  | 117 => ⟨S_, .f32⟩
  | 118 => ⟨S2x64x4096, .f32⟩
  | 119 => ⟨S2x64x4096x1, .f32⟩
  | 120 => ⟨S_, .f32⟩
  | 121 => ⟨S_, .f32⟩
  | 122 => ⟨S2x64x4096x1, .i1⟩
  | 123 => ⟨S2x64x4096x1, .f32⟩
  | 124 => ⟨S2x64x4096x1, .f32⟩
  | 125 => ⟨S2x64x4096x512, .f32⟩
  | 126 => ⟨S2x64x4096x512, .f32⟩
  | 127 => ⟨S1x1x4096x1, .i1⟩
  | _ => ⟨S2x4096x768, .f32⟩

abbrev hbmTy0_1 (i : Nat) : BufTy := match i % 128 with
  | 0 => ⟨S_, .f32⟩
  | 1 => ⟨S_, .f32⟩
  | 2 => ⟨S2x64x4096x512, .i1⟩
  | 3 => ⟨S2x64x4096x512, .f32⟩
  | 4 => ⟨S2x64x4096x512, .f32⟩
  | 5 => ⟨S2x64x64x4096, .f32⟩
  | 6 => ⟨S2x4096x64x64, .f32⟩
  | 7 => ⟨S2x4096x4096, .f32⟩
  | 8 => ⟨S2x4096x768, .f32⟩
  | _ => ⟨S2x4096x768, .f32⟩

abbrev hbmTy (i : Nat) : BufTy := match i / 128 with
  | 0 => hbmTy0_0 i
  | 1 => hbmTy0_1 i
  | _ => ⟨S2x4096x768, .f32⟩

abbrev bufTy : (tb : Table) → Fin (tcTables nBuf tb) → BufTy
  | .hbm, ⟨i, _⟩ => hbmTy i
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Points
public import Idealize.ShloMosaic.Lib.Rounds

/-! # The kernel's body, told in blocks

One device's program: the first K/V fetch, the barrier, its own weights sent both ways, and eight
steps. A step waits for a peer's weights, passes them on where the ring still needs them, reads them,
waits for its K/V chunk, starts the next fetch and adds its chunk's contribution to both batches' sums.
Each of those is a block here, written once over the offsets it is called with. -/

@[expose] public section

noncomputable section

namespace Cert.KernelIdeal.Ring

open Idealize.ShloMosaic Idealize.ShloMosaic.TcCoe
open Idealize.SL Idealize.SL.Sem
open Cert.KernelIdeal.Gen

variable {F : FTy → Type} [FloatOps F] [Named F]

/-- A device's program. -/
abbrev P (F : FTy → Type) [FloatOps F] [Named F] := Prog (TpuEff nD τ sig (Elt F) Λ₀ .tc) PUnit

/-! ## What a step computes -/

/-- One head of one batch: the block's scores, their exponentials, and the weighted mean of the values. -/
def head (bias : FVec F S512x512 .f32) (q k v : FVec F S512x512 .bf16) (o : Fin 2 → Nat) (h : S512x512.Slices o S512x64) :
    FVec F S512x64 .bf16 :=
  let s : FVec F S512x512 .f32 := matmul dot_S512x64_S512x64_S512x512_1_1_0_0_n_n none (extractStridedSlice S512x64 o q h)
    (extractStridedSlice S512x64 o k h) (constant S512x512 .f32 0x00000000#32)
  let e : FVec F S512x512 .f32 := exp (addf (mulf s (broadcast S512x512 (Scalar.ofBits .f32 0x3E000000#32))) bias)
  let l : FVec F S512 .f32 := multiReduction .add [1] S512 e 0x00000000#32 reduces_S512x512_S512 (.inl rfl) rfl
  let pv : FVec F S512x64 .f32 := matmul dot_S512x512_S512x64_S512x64_1_0_0_1_n_n none (truncf .bf16 e bitsLt_bf16_f32)
    (extractStridedSlice S512x64 o v h) (constant S512x64 .f32 0x00000000#32)
  truncf .bf16 (divf pv (broadcastTo S512x64 (shapeCast S512x1 l shapeCasts_S512_S512x1) broadcasts_S512x1_S512x64)) bitsLt_bf16_f32

/-- The queries of one batch under one chunk of `Wq`. -/
def queries (x : Vec F S1x512x768 .bf16) (wq : FVec F S768x512 .bf16) : FVec F S512x512 .bf16 :=
  truncf .bf16 (matmul dot_S512x768_S768x512_S512x512_1_0_0_1_n_n none (shapeCast S512x768 x shapeCasts_S1x512x768_S512x768) wq
    (constant S512x512 .f32 0x00000000#32) : FVec F S512x512 .f32) bitsLt_bf16_f32

/-- A chunk's eight heads side by side, projected by the same chunk of `Wo`. -/
def heads (bias : FVec F S512x512 .f32) (q k v : FVec F S512x512 .bf16) (wo : FVec F S512x768 .bf16) : FVec F S512x768 .f32 :=
  matmul dot_S512x512_S512x768_S512x768_1_0_0_1_n_n none
    (concatenate S512x512 1 [⟨S512x64, head bias q k v ![0, 0] slices_S512x512_o0_0_S512x64⟩,
      ⟨S512x64, head bias q k v ![0, 64] slices_S512x512_o0_64_S512x64⟩,
      ⟨S512x64, head bias q k v ![0, 128] slices_S512x512_o0_128_S512x64⟩,
      ⟨S512x64, head bias q k v ![0, 192] slices_S512x512_o0_192_S512x64⟩,
      ⟨S512x64, head bias q k v ![0, 256] slices_S512x512_o0_256_S512x64⟩,
      ⟨S512x64, head bias q k v ![0, 320] slices_S512x512_o0_320_S512x64⟩,
      ⟨S512x64, head bias q k v ![0, 384] slices_S512x512_o0_384_S512x64⟩,
      ⟨S512x64, head bias q k v ![0, 448] slices_S512x512_o0_448_S512x64⟩]
      concatenates_S512x64_S512x64_S512x64_S512x64_S512x64_S512x64_S512x64_S512x64_S512x512_d1) wo (constant S512x768 .f32 0x00000000#32)

/-- A chunk's contribution to one batch's rows. -/
def contrib (bias : FVec F S512x512 .f32) (x : Vec F S1x512x768 .bf16) (wq : FVec F S768x512 .bf16) (wo : FVec F S512x768 .bf16)
    (k v : Vec F S1x1x512x512 .bf16) : FVec F S512x768 .f32 :=
  heads bias (queries x wq) (shapeCast S512x512 k shapeCasts_S1x1x512x512_S512x512) (shapeCast S512x512 v shapeCasts_S1x1x512x512_S512x512) wo

/-- The mask of device `d`'s rows as an additive bias: nothing where a key may be read, the named
    constant where it may not. -/
def bias (d : Dev nD) : FVec F S512x512 .f32 :=
  have v99 : IVec S512x512 32 := iota .tc S512x512 32 [1] iota_S512x512_d1_w32
  k0_pay9 (F := F) (Scalar.remsi (Scalar.divsi (Dev.word d) 1#32) 8#32) k0_pay1
    (k0_pay4 v99 64#32 k0_pay2 k0_pay3) (k0_pay5 k0_pay1) (Scalar.select (Scalar.cmpi .eq 4#32 0#32) 1#32 4#32)
    (k0_pay6 v99 64#32 k0_pay2 k0_pay3) (k0_pay7 v99 64#32 k0_pay2 k0_pay3) (k0_pay8 v99 64#32 k0_pay2 k0_pay3) 0#32

/-! ## The memory a step works on -/

theorem inbKV : ∀ (s : Fin 2) (a : Fin 4), (![s.val, 0, 0, 0] : Fin 4 → Nat) a + S1x2x512x512.size a ≤ S2x2x512x512.size a := by decide
theorem inbKVb : ∀ (s b : Fin 2) (a : Fin 4), (![s.val, b.val, 0, 0] : Fin 4 → Nat) a + S1x1x512x512.size a ≤ S2x2x512x512.size a := by decide
theorem inbX : ∀ (b : Fin 2) (a : Fin 3), (![b.val, 0, 0] : Fin 3 → Nat) a + S1x512x768.size a ≤ S2x512x768.size a := by decide
theorem inbS2 : ∀ (s : Fin 2) (a : Fin 1), (![s.val] : Fin 1 → Nat) a + S1.size a ≤ S2.size a := by decide
theorem wordsKV (s : Fin 2) : (Rect.unit (s := S2x2x512x512) ![s.val, 0, 0, 0] S1x2x512x512.size (inbKV s)).WholeWords (EltTy.packing .bf16) := by
  revert s; decide

/-- The semaphore at `o` of an array of eight. -/
abbrev semAt (A : DmaSems sig S8) (o : Fin 1 → Nat) (h : ∀ a, o a + S1.size a ≤ S8.size a) : DmaSem sig :=
  ((A.slice (Rect.unit (s := S8) o S1.size h)).squeeze S_ squeezes_S1_S_).sem

/-- The semaphore of buffer `s` of a pair. -/
abbrev semOf (A : DmaSems sig S2) (s : Fin 2) : DmaSem sig :=
  ((A.slice (Rect.unit (s := S2) ![s.val] S1.size (inbS2 s))).squeeze S_ squeezes_S1_S_).sem

/-- The slot at `o` of the gathered `Wq`, and of the gathered `Wo`. -/
abbrev slotQ (o : Fin 3 → Nat) (h : ∀ a, o a + S1x768x512.size a ≤ S8x768x512.size a) : Memref sig .tc .vmem S768x512 .bf16 :=
  ((Memref.whole cc0_scratch0).slice (Rect.unit (s := S8x768x512) o S1x768x512.size h) (fun _ => rfl)).squeeze S768x512 squeezes_S1x768x512_S768x512
@[inherit_doc slotQ] abbrev slotO (o : Fin 3 → Nat) (h : ∀ a, o a + S1x512x768.size a ≤ S8x512x768.size a) : Memref sig .tc .vmem S512x768 .bf16 :=
  ((Memref.whole cc0_scratch1).slice (Rect.unit (s := S8x512x768) o S1x512x768.size h) (fun _ => rfl)).squeeze S512x768 squeezes_S1x512x768_S512x768

/-- Chunk `o` of K or V (an HBM array of eight), and buffer `s` of its pair of landing buffers. -/
abbrev chunkOf (A : Memref sig .tc .hbm S8x2x512x512 .bf16) (o : Fin 4 → Nat) (h : ∀ a, o a + S1x2x512x512.size a ≤ S8x2x512x512.size a) :
    Memref sig .tc .hbm S2x512x512 .bf16 :=
  (A.slice (Rect.unit (s := S8x2x512x512) o S1x2x512x512.size h) (fun _ => rfl)).squeeze S2x512x512 squeezes_S1x2x512x512_S2x512x512
@[inherit_doc chunkOf] abbrev bufOf (A : Memref sig .tc .vmem S2x2x512x512 .bf16) (s : Fin 2) : Memref sig .tc .vmem S2x512x512 .bf16 :=
  (A.slice (Rect.unit (s := S2x2x512x512) ![s.val, 0, 0, 0] S1x2x512x512.size (inbKV s)) (fun _ => rfl)).squeeze S2x512x512 squeezes_S1x2x512x512_S2x512x512

abbrev WholeQ (o : Fin 3 → Nat) (h : ∀ a, o a + S1x768x512.size a ≤ S8x768x512.size a) : Prop :=
  (Rect.unit (s := S8x768x512) o S1x768x512.size h).WholeWords (EltTy.packing .bf16)
abbrev WholeO (o : Fin 3 → Nat) (h : ∀ a, o a + S1x512x768.size a ≤ S8x512x768.size a) : Prop :=
  (Rect.unit (s := S8x512x768) o S1x512x768.size h).WholeWords (EltTy.packing .bf16)
abbrev WholeKV (o : Fin 4 → Nat) (h : ∀ a, o a + S1x2x512x512.size a ≤ S8x2x512x512.size a) : Prop :=
  (Rect.unit (s := S8x2x512x512) o S1x2x512x512.size h).WholeWords (EltTy.packing .bf16)

/-- A location's memory as the kernel is handed it. -/
abbrev mX : Memref sig .tc .vmem S2x512x768 .bf16 := win0_0.stage 0
abbrev mQ : Memref sig .tc .vmem S768x512 .bf16 := win0_1.stage 0
abbrev mO : Memref sig .tc .vmem S512x768 .bf16 := win0_2.stage 0
abbrev mOut : Memref sig .tc .vmem S2x512x768 .f32 := win0_3.stage 0
abbrev mK : Memref sig .tc .hbm S8x2x512x512 .bf16 := Memref.whole main_v6
abbrev mV : Memref sig .tc .hbm S8x2x512x512 .bf16 := Memref.whole main_v9
abbrev bK : Memref sig .tc .vmem S2x2x512x512 .bf16 := Memref.whole cc0_scratch2
abbrev bV : Memref sig .tc .vmem S2x2x512x512 .bf16 := Memref.whole cc0_scratch3
abbrev barS : Sem sig := (SemArray.scalar (sig.barrier 0 rfl) : Sems sig S_).sem

theorem exactKV {A : Memref sig .tc .hbm S8x2x512x512 .bf16} (hA : A.IsWhole) {o : Fin 4 → Nat} {h : ∀ a, o a + S1x2x512x512.size a ≤ S8x2x512x512.size a}
    (w : WholeKV o h) : (chunkOf A o h).view.WordExact := (hA.wordExact_slice rfl _ w).reshape _ _
theorem exactBuf {A : Memref sig .tc .vmem S2x2x512x512 .bf16} (hA : A.IsWhole) (s : Fin 2) : (bufOf A s).view.WordExact :=
  (hA.wordExact_slice rfl _ (wordsKV s)).reshape _ _
theorem exactQ {o : Fin 3 → Nat} {h : ∀ a, o a + S1x768x512.size a ≤ S8x768x512.size a} (w : WholeQ o h) : (slotQ o h).view.WordExact :=
  ((Memref.isWhole_whole cc0_scratch0).wordExact_slice rfl _ w).reshape _ _
theorem exactO {o : Fin 3 → Nat} {h : ∀ a, o a + S1x512x768.size a ≤ S8x512x768.size a} (w : WholeO o h) : (slotO o h).view.WordExact :=
  ((Memref.isWhole_whole cc0_scratch1).wordExact_slice rfl _ w).reshape _ _

/-! ## The blocks -/

/-- Start fetching chunk `o` of K and of V into buffer `s`. -/
def fetchP (o : Fin 4 → Nat) (h : ∀ a, o a + S1x2x512x512.size a ≤ S8x2x512x512.size a) (w : WholeKV o h) (s : Fin 2) (k : P F) : P F :=
  .op (.enqueueDma (chunkOf mK o h) (.here (bufOf bK s)) (.dma (semOf cc0_scratch10 s)) (exactKV (Memref.isWhole_whole _) w)
    (exactBuf (Memref.isWhole_whole _) s) ⟨Or.inl rfl, trivial⟩) fun _ =>
  .op (.enqueueDma (chunkOf mV o h) (.here (bufOf bV s)) (.dma (semOf cc0_scratch11 s)) (exactKV (Memref.isWhole_whole _) w)
    (exactBuf (Memref.isWhole_whole _) s) ⟨Or.inl rfl, trivial⟩) fun _ => k

/-- Wait for both fetches into buffer `s`. -/
def fetchedP (o : Fin 4 → Nat) (h : ∀ a, o a + S1x2x512x512.size a ≤ S8x2x512x512.size a) (w : WholeKV o h) (s : Fin 2) (k : P F) : P F :=
  .op (.waitDma2 (semOf cc0_scratch10 s) (chunkOf mK o h) (bufOf bK s) (exactKV (Memref.isWhole_whole _) w) (exactBuf (Memref.isWhole_whole _) s)) fun _ =>
  .op (.waitDma2 (semOf cc0_scratch11 s) (chunkOf mV o h) (bufOf bV s) (exactKV (Memref.isWhole_whole _) w) (exactBuf (Memref.isWhole_whole _) s)) fun _ => k

/-- Wait on a pair of semaphores for a landing in (or a sending from) the two slots at `o7`, `o8`. -/
def waitP (A B : DmaSems sig S8) (o6 : Fin 1 → Nat) (h6 : ∀ a, o6 a + S1.size a ≤ S8.size a)
    (o7 : Fin 3 → Nat) (h7 : ∀ a, o7 a + S1x768x512.size a ≤ S8x768x512.size a) (w7 : WholeQ o7 h7)
    (o8 : Fin 3 → Nat) (h8 : ∀ a, o8 a + S1x512x768.size a ≤ S8x512x768.size a) (w8 : WholeO o8 h8) (k : P F) : P F :=
  .op (.waitDma2 (semAt A o6 h6) (slotQ o7 h7) (slotQ o7 h7) (exactQ w7) (exactQ w7)) fun _ =>
  .op (.waitDma2 (semAt B o6 h6) (slotO o8 h8) (slotO o8 h8) (exactO w8) (exactO w8)) fun _ => k

/-- Send a `Wq` chunk and a `Wo` chunk to device `n` (named twice by the kernel), into its slots at `o7`, `o8`. -/
def sendP (A B : DmaSems sig S8) (n n' : Dev nD) (sQ : Memref sig .tc .vmem S768x512 .bf16) (eQ : sQ.view.WordExact)
    (sO : Memref sig .tc .vmem S512x768 .bf16) (eO : sO.view.WordExact) (o6 : Fin 1 → Nat) (h6 : ∀ a, o6 a + S1.size a ≤ S8.size a)
    (o7 : Fin 3 → Nat) (h7 : ∀ a, o7 a + S1x768x512.size a ≤ S8x768x512.size a) (w7 : WholeQ o7 h7)
    (o8 : Fin 3 → Nat) (h8 : ∀ a, o8 a + S1x512x768.size a ≤ S8x512x768.size a) (w8 : WholeO o8 h8) (k : P F) : P F :=
  .op (.enqueueDma sQ (.remote (Dev.tc n) (slotQ o7 h7) (.dma (semAt A o6 h6))) (.dma (semAt cc0_scratch6 o6 h6)) eQ (exactQ w7)
    ⟨⟨rfl, Or.inl rfl⟩, trivial⟩) fun _ =>
  .op (.enqueueDma sO (.remote (Dev.tc n') (slotO o8 h8) (.dma (semAt B o6 h6))) (.dma (semAt cc0_scratch9 o6 h6)) eO (exactO w8)
    ⟨⟨rfl, Or.inl rfl⟩, trivial⟩) fun _ => k

/-- Read the two slots at `o9`, `o10`. -/
def readP (o9 : Fin 3 → Nat) (h9 : ∀ a, o9 a + S1x768x512.size a ≤ S8x768x512.size a)
    (o10 : Fin 3 → Nat) (h10 : ∀ a, o10 a + S1x512x768.size a ≤ S8x512x768.size a)
    (k : Vec F S1x768x512 .bf16 → Vec F S1x512x768 .bf16 → P F) : P F :=
  .op (.load (Memref.whole cc0_scratch0) (Rect.unit (s := S8x768x512) o9 S1x768x512.size h9).toLoadRect (View.loadsAt_vmem h_S1x768x512)) fun wq =>
  .op (.load (Memref.whole cc0_scratch1) (Rect.unit (s := S8x512x768) o10 S1x512x768.size h10).toLoadRect (View.loadsAt_vmem h_S1x512x768)) fun wo => k wq wo

/-- Read batch `b` of the activations and of the chunk in buffer `s`. -/
def batchP (s b : Fin 2) (k : Vec F S1x512x768 .bf16 → Vec F S1x1x512x512 .bf16 → Vec F S1x1x512x512 .bf16 → P F) : P F :=
  .op (.load mX (Rect.unit (s := S2x512x768) ![b.val, 0, 0] S1x512x768.size (inbX b)).toLoadRect (View.loadsAt_vmem h_S1x512x768)) fun x =>
  .op (.load bK (Rect.unit (s := S2x2x512x512) ![s.val, b.val, 0, 0] S1x1x512x512.size (inbKVb s b)).toLoadRect (View.loadsAt_vmem h_S1x1x512x512)) fun kc =>
  .op (.load bV (Rect.unit (s := S2x2x512x512) ![s.val, b.val, 0, 0] S1x1x512x512.size (inbKVb s b)).toLoadRect (View.loadsAt_vmem h_S1x1x512x512)) fun vc => k x kc vc

/-- The chunk in buffer `s`: both batches' contributions under the weights `wq`, `wo`. -/
def computeP (s : Fin 2) (bi : FVec F S512x512 .f32) (wq : FVec F S768x512 .bf16) (wo : FVec F S512x768 .bf16)
    (k : FVec F S512x768 .f32 → FVec F S512x768 .f32 → P F) : P F :=
  batchP s 0 fun x0 k0 v0 => batchP s 1 fun x1 k1 v1 => k (contrib bi x0 wq wo k0 v0) (contrib bi x1 wq wo k1 v1)

/-- Store one batch's rows of the result. -/
def storeP (b : Fin 2) (acc : FVec F S512x768 .f32) (k : P F) : P F :=
  .op (.load mOut (Rect.unit (s := S2x512x768) ![b.val, 0, 0] S1x512x768.size (inbX b)).toLoadRect (View.loadsAt_vmem h_S1x512x768)) fun _ =>
  .op (.store mOut (Rect.unit (s := S2x512x768) ![b.val, 0, 0] S1x512x768.size (inbX b)) (shapeCast S1x512x768 acc shapeCasts_S512x768_S1x512x768)
    Finset.univ (View.stores_vmem_bits_univ h_S1x512x768 rfl) (.inl rfl)) fun _ => k

/-! ## The blocks at device `d` and row `i` of the tables of offsets -/

abbrev fetchD (d : Dev nD) (j : Fin 8) (s : Fin 2) (k : P F) : P F := fetchP (k0_off5 d (k0_off5_at j)) (k0_off5_inb d j) (k0_off5_wordsbf16 d j) s k
abbrev fetchedD (d : Dev nD) (j : Fin 8) (s : Fin 2) (k : P F) : P F := fetchedP (k0_off5 d (k0_off5_at j)) (k0_off5_inb d j) (k0_off5_wordsbf16 d j) s k
abbrev waitD (A B : DmaSems sig S8) (d : Dev nD) (i : Fin 8) (k : P F) : P F :=
  waitP A B (k0_off6 d (k0_off6_at i)) (k0_off6_inb d i) (k0_off7 d (k0_off7_at i)) (k0_off7_inb d i) (k0_off7_wordsbf16 d i)
    (k0_off8 d (k0_off8_at i)) (k0_off8_inb d i) (k0_off8_wordsbf16 d i) k
abbrev passD (A B : DmaSems sig S8) (n n' : Dev nD) (d : Dev nD) (i : Fin 8) (k : P F) : P F :=
  sendP A B n n' (slotQ (k0_off7 d (k0_off7_at i)) (k0_off7_inb d i)) (exactQ (k0_off7_wordsbf16 d i))
    (slotO (k0_off8 d (k0_off8_at i)) (k0_off8_inb d i)) (exactO (k0_off8_wordsbf16 d i))
    (k0_off6 d (k0_off6_at i)) (k0_off6_inb d i) (k0_off7 d (k0_off7_at i)) (k0_off7_inb d i) (k0_off7_wordsbf16 d i)
    (k0_off8 d (k0_off8_at i)) (k0_off8_inb d i) (k0_off8_wordsbf16 d i) k
abbrev ownD (A B : DmaSems sig S8) (n n' : Dev nD) (d : Dev nD) (k : P F) : P F :=
  sendP A B n n' mQ (hstage0_1 0).wordExact mO (hstage0_2 0).wordExact (k0_off2 d) (k0_off2_inb d) (k0_off3 d) (k0_off3_inb d) (k0_off3_wordsbf16 d)
    (k0_off4 d) (k0_off4_inb d) (k0_off4_wordsbf16 d) k
abbrev readD (d : Dev nD) (i : Fin 7) (k : FVec F S768x512 .bf16 → FVec F S512x768 .bf16 → P F) : P F :=
  readP (k0_off9 d (k0_off9_at i)) (k0_off9_inb d i) (k0_off10 d (k0_off10_at i)) (k0_off10_inb d i) fun wq wo =>
    k (shapeCast S768x512 wq shapeCasts_S1x768x512_S768x512) (shapeCast S512x768 wo shapeCasts_S1x512x768_S512x768)

/-- A step's arithmetic: the chunk in buffer `s` is waited for, the next fetch started where there is one, and
    both sums advanced. -/
def sumP (d : Dev nD) (j : Fin 8) (s : Fin 2) (next : P F → P F) (wq : FVec F S768x512 .bf16) (wo : FVec F S512x768 .bf16)
    (a0 a1 : FVec F S512x768 .f32) (k : FVec F S512x768 .f32 → FVec F S512x768 .f32 → P F) : P F :=
  fetchedD d j s <| next <| computeP s (bias d) wq wo fun c0 c1 => k (addf a0 c0) (addf a1 c1)

/-- The last of a device's program: both batches' rows stored, and every send waited for. -/
def lastP (d : Dev nD) (a0 a1 : FVec F S512x768 .f32) : P F :=
  storeP 0 a0 <| storeP 1 a1 <|
  waitD cc0_scratch4 cc0_scratch7 d 7 <| waitD cc0_scratch4 cc0_scratch7 d 0 <| waitD cc0_scratch4 cc0_scratch7 d 2 <|
  waitD cc0_scratch5 cc0_scratch8 d 7 <| waitD cc0_scratch5 cc0_scratch8 d 1 <| waitD cc0_scratch5 cc0_scratch8 d 3 <|
  waitD cc0_scratch5 cc0_scratch8 d 5 <| .ret ⟨⟩

/-- Step `i + 1`: the weights at row `i` waited for, passed on by `pass`, read; then the step's arithmetic. -/
def stepP (d : Dev nD) (i : Fin 7) (s : Fin 2) (pass next : P F → P F) (a0 a1 : FVec F S512x768 .f32)
    (k : FVec F S512x768 .f32 → FVec F S512x768 .f32 → P F) : P F :=
  waitD cc0_scratch6 cc0_scratch9 d i.castSucc <| pass <| readD d i fun wq wo => sumP d i.succ s next wq wo a0 a1 k

/-- The program after the barrier's wait and the device's own sends. -/
def stepsP (d : Dev nD) : P F :=
  .op (.load mQ (Rect.unit (s := S768x512) ![0, 0] S768x512.size inb_S768x512_S768x512_0_0).toLoadRect (View.loadsAt_vmem h_S768x512)) fun wq =>
  .op (.load mO (Rect.unit (s := S512x768) ![0, 0] S512x768.size inb_S512x768_S512x768_0_0).toLoadRect (View.loadsAt_vmem h_S512x768)) fun wo =>
  fetchedD d 0 0 <| fetchD d 1 1 <|
  computeP 0 (bias d) (shapeCast S768x512 wq shapeCasts_S768x512_S768x512) (shapeCast S512x768 wo shapeCasts_S512x768_S512x768) fun a0 a1 =>
  stepP d 0 1 (passD cc0_scratch4 cc0_scratch7 ⟨k0_dev7 d, k0_dev7_lt d⟩ ⟨k0_dev8 d, k0_dev8_lt d⟩ d 0) (fetchD d 2 0) a0 a1 fun a0 a1 =>
  stepP d 1 0 (passD cc0_scratch5 cc0_scratch8 ⟨k0_dev9 d, k0_dev9_lt d⟩ ⟨k0_dev10 d, k0_dev10_lt d⟩ d 1) (fetchD d 3 1) a0 a1 fun a0 a1 =>
  stepP d 2 1 (passD cc0_scratch4 cc0_scratch7 ⟨k0_dev11 d, k0_dev11_lt d⟩ ⟨k0_dev12 d, k0_dev12_lt d⟩ d 2) (fetchD d 4 0) a0 a1 fun a0 a1 =>
  stepP d 3 0 (passD cc0_scratch5 cc0_scratch8 ⟨k0_dev13 d, k0_dev13_lt d⟩ ⟨k0_dev14 d, k0_dev14_lt d⟩ d 3) (fetchD d 5 1) a0 a1 fun a0 a1 =>
  stepP d 4 1 (fun k => k) (fetchD d 6 0) a0 a1 fun a0 a1 =>
  stepP d 5 0 (passD cc0_scratch5 cc0_scratch8 ⟨k0_dev15 d, k0_dev15_lt d⟩ ⟨k0_dev16 d, k0_dev16_lt d⟩ d 5) (fetchD d 7 1) a0 a1 fun a0 a1 =>
  stepP d 6 1 (fun k => k) (fun k => k) a0 a1 fun a0 a1 =>
  lastP d a0 a1

/-- A device's program. -/
def bodyP : P F :=
  .op .deviceId fun d =>
  fetchP (k0_off1 d) (k0_off1_inb d) (k0_off1_wordsbf16 d) 0 <|
  .op (.semSignal (Dev.tc ⟨k0_dev1 d, k0_dev1_lt d⟩) barS 1) fun _ => .op (.semSignal (Dev.tc ⟨k0_dev2 d, k0_dev2_lt d⟩) barS 1) fun _ =>
  .op (.semWait barS 2) fun _ =>
  ownD cc0_scratch4 cc0_scratch7 ⟨k0_dev3 d, k0_dev3_lt d⟩ ⟨k0_dev4 d, k0_dev4_lt d⟩ d <|
  ownD cc0_scratch5 cc0_scratch8 ⟨k0_dev5 d, k0_dev5_lt d⟩ ⟨k0_dev6 d, k0_dev6_lt d⟩ d <|
  stepsP d

set_option maxRecDepth 65536 in
set_option maxHeartbeats 4000000 in
/-- What the pipeline calls is that program: the printed parts flattened, the blocks unfolded. -/
theorem body_eq (t : Fin cfg0.N) : bodyAt0 (F := F) t = bodyP := by
  unfold bodyAt0
  simp (maxSteps := 100000000) only [cc0_body_eq_skeleton, cc0_body_skel, k0_part1_eq_skeleton, k0_part1_skel, k0_part2_eq_skeleton,
    k0_part2_skel, k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel, k0_part9_eq_skeleton,
    k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel,
    k0_part55_eq_skeleton, k0_part55_skel, k0_part56_eq_skeleton, k0_part56_skel, k0_part57_eq_skeleton, k0_part57_skel,
    k0_part58_eq_skeleton, k0_part58_skel, k0_part59_eq_skeleton, k0_part59_skel, k0_part60_eq_skeleton, k0_part60_skel,
    k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel,
    k0_part67_eq_skeleton, k0_part67_skel, k0_part68_eq_skeleton, k0_part68_skel, k0_part69_eq_skeleton, k0_part69_skel,
    k0_part70_eq_skeleton, k0_part70_skel, k0_part71_eq_skeleton, k0_part71_skel, k0_part72_eq_skeleton, k0_part72_skel,
    k0_part73_eq_skeleton, k0_part73_skel, k0_part74_eq_skeleton, k0_part74_skel, k0_part75_eq_skeleton, k0_part75_skel,
    k0_part76_eq_skeleton, k0_part76_skel, k0_part77_eq_skeleton, k0_part77_skel, Prog.lift, Prog.bind_op, Prog.bind_ret,
    Prog.pure_eq_ret, Prog.bind_assoc, semSignalWord, semWaitWord]
  rfl

end Cert.KernelIdeal.Ring

end
-- ==== Proof.Canon.lean ====
module

public import proofs.«01_k».proof.Proof.Program

/-! # The body with its offsets computed

The kernel reads off its device number which chunk a step works on, which slot that is and which semaphore
goes with it. Here those words are computed once: step `j` of device `d` works on chunk `d + off j`, counted
round the ring, and the body is restated over chunk numbers. -/

@[expose] public section

noncomputable section

namespace Cert.KernelIdeal.Ring

open Idealize.ShloMosaic Idealize.ShloMosaic.TcCoe
open Idealize.SL Idealize.SL.Sem
open Cert.KernelIdeal.Gen

variable {F : FTy → Type} [FloatOps F] [Named F]

/-- Step `j` works on the chunk this far round the ring: 0, -1, 1, -2, 2, -3, 3, 4. -/
def off : Fin 8 → Fin 8 := ![0, 7, 1, 6, 2, 5, 3, 4]

theorem inbQ : ∀ (r : Dev nD) (a : Fin 3), (![r.val, 0, 0] : Fin 3 → Nat) a + S1x768x512.size a ≤ S8x768x512.size a := by decide
theorem inbO : ∀ (r : Dev nD) (a : Fin 3), (![r.val, 0, 0] : Fin 3 → Nat) a + S1x512x768.size a ≤ S8x512x768.size a := by decide
theorem inbC : ∀ (r : Dev nD) (a : Fin 4), (![r.val, 0, 0, 0] : Fin 4 → Nat) a + S1x2x512x512.size a ≤ S8x2x512x512.size a := by decide
theorem wordsQ : ∀ r : Dev nD, WholeQ ![r.val, 0, 0] (inbQ r) := by decide
theorem wordsO : ∀ r : Dev nD, WholeO ![r.val, 0, 0] (inbO r) := by decide
theorem wordsC : ∀ r : Dev nD, WholeKV ![r.val, 0, 0, 0] (inbC r) := by decide

/-- Slot `r` of the gathered weights; chunk `r` of K or V. -/
abbrev sQ (r : Dev nD) : Memref sig .tc .vmem S768x512 .bf16 := slotQ ![r.val, 0, 0] (inbQ r)
@[inherit_doc sQ] abbrev sO (r : Dev nD) : Memref sig .tc .vmem S512x768 .bf16 := slotO ![r.val, 0, 0] (inbO r)
@[inherit_doc sQ] abbrev chunk (A : Memref sig .tc .hbm S8x2x512x512 .bf16) (r : Dev nD) : Memref sig .tc .hbm S2x512x512 .bf16 :=
  chunkOf A ![r.val, 0, 0, 0] (inbC r)

/-- Ring semaphore `r` of array `a`: 0 and 1 the sends of `Wq` right and left, 2 its receives; 3, 4, 5 the same of `Wo`. -/
def semR (a : Fin 6) (r : Dev nD) : DmaSem sig := ⟨4 + 8 * a.val + r.val, by have := a.isLt; have : r.val < 8 := r.isLt; show _ < 56; omega⟩
/-- The semaphore of landing buffer `s` of K (`b` 0) or V (`b` 1). -/
def semK (b s : Fin 2) : DmaSem sig := ⟨52 + 2 * b.val + s.val, by have := b.isLt; have := s.isLt; show _ < 56; omega⟩

theorem semAt_eq : (∀ r : Dev nD, ∀ h, semAt cc0_scratch4 ![r.val] h = semR 0 r) ∧ (∀ r : Dev nD, ∀ h, semAt cc0_scratch5 ![r.val] h = semR 1 r)
    ∧ (∀ r : Dev nD, ∀ h, semAt cc0_scratch6 ![r.val] h = semR 2 r) ∧ (∀ r : Dev nD, ∀ h, semAt cc0_scratch7 ![r.val] h = semR 3 r)
    ∧ (∀ r : Dev nD, ∀ h, semAt cc0_scratch8 ![r.val] h = semR 4 r) ∧ (∀ r : Dev nD, ∀ h, semAt cc0_scratch9 ![r.val] h = semR 5 r) := by
  decide +kernel
theorem semOf_eq : (∀ s, semOf cc0_scratch10 s = semK 0 s) ∧ (∀ s, semOf cc0_scratch11 s = semK 1 s) := by decide +kernel

/-! ## The words -/

theorem off1_eq : ∀ d : Dev nD, k0_off1 d = ![(d + off 0).val, 0, 0, 0] := by decide +kernel
theorem off2_eq : ∀ d : Dev nD, k0_off2 d = ![(d + off 0).val] := by decide +kernel
theorem off3_eq : ∀ d : Dev nD, k0_off3 d = ![(d + off 0).val, 0, 0] := by decide +kernel
theorem off4_eq : ∀ d : Dev nD, k0_off4 d = ![(d + off 0).val, 0, 0] := by decide +kernel
theorem off5_eq : ∀ (d : Dev nD) (j : Fin 8), k0_off5 d (k0_off5_at j) = ![(d + off j).val, 0, 0, 0] := by decide +kernel
theorem off6_eq : ∀ (d : Dev nD) (j : Fin 8), k0_off6 d (k0_off6_at j) = ![(d + off (j + 1)).val] := by decide +kernel
theorem off7_eq : ∀ (d : Dev nD) (j : Fin 8), k0_off7 d (k0_off7_at j) = ![(d + off (j + 1)).val, 0, 0] := by decide +kernel
theorem off8_eq : ∀ (d : Dev nD) (j : Fin 8), k0_off8 d (k0_off8_at j) = ![(d + off (j + 1)).val, 0, 0] := by decide +kernel
theorem off9_eq : ∀ (d : Dev nD) (i : Fin 7), k0_off9 d (k0_off9_at i) = ![(d + off i.succ).val, 0, 0] := by decide +kernel
theorem off10_eq : ∀ (d : Dev nD) (i : Fin 7), k0_off10 d (k0_off10_at i) = ![(d + off i.succ).val, 0, 0] := by decide +kernel

/-- The left neighbour and the right one. -/
abbrev prv (d : Dev nD) : Dev nD := d + 7
@[inherit_doc prv] abbrev nxt (d : Dev nD) : Dev nD := d + 1

theorem dev_eq : ∀ d : Dev nD, (k0_dev1 d = (prv d).val ∧ k0_dev2 d = (nxt d).val) ∧ (k0_dev3 d = (nxt d).val ∧ k0_dev4 d = (nxt d).val)
    ∧ (k0_dev5 d = (prv d).val ∧ k0_dev6 d = (prv d).val) ∧ (k0_dev7 d = (nxt d).val ∧ k0_dev8 d = (nxt d).val)
    ∧ (k0_dev9 d = (prv d).val ∧ k0_dev10 d = (prv d).val) ∧ (k0_dev11 d = (nxt d).val ∧ k0_dev12 d = (nxt d).val)
    ∧ (k0_dev13 d = (prv d).val ∧ k0_dev14 d = (prv d).val) ∧ (k0_dev15 d = (prv d).val ∧ k0_dev16 d = (prv d).val) := by decide +kernel

/-! ## The blocks over chunk numbers -/

/-- `fetchP` of chunk `r`, on the semaphores named. -/
def fetchS (sk sv : DmaSem sig) (r : Dev nD) (s : Fin 2) (k : P F) : P F :=
  .op (.enqueueDma (chunk mK r) (.here (bufOf bK s)) (.dma sk) (exactKV (Memref.isWhole_whole _) (wordsC r))
    (exactBuf (Memref.isWhole_whole _) s) ⟨Or.inl rfl, trivial⟩) fun _ =>
  .op (.enqueueDma (chunk mV r) (.here (bufOf bV s)) (.dma sv) (exactKV (Memref.isWhole_whole _) (wordsC r))
    (exactBuf (Memref.isWhole_whole _) s) ⟨Or.inl rfl, trivial⟩) fun _ => k

/-- `fetchP` of chunk `r`. -/
def fetchC (r : Dev nD) (s : Fin 2) (k : P F) : P F := fetchS (semK 0 s) (semK 1 s) r s k

/-- `fetchedP` of chunk `r`. -/
def fetchedC (r : Dev nD) (s : Fin 2) (k : P F) : P F :=
  .op (.waitDma2 (semK 0 s) (chunk mK r) (bufOf bK s) (exactKV (Memref.isWhole_whole _) (wordsC r)) (exactBuf (Memref.isWhole_whole _) s)) fun _ =>
  .op (.waitDma2 (semK 1 s) (chunk mV r) (bufOf bV s) (exactKV (Memref.isWhole_whole _) (wordsC r)) (exactBuf (Memref.isWhole_whole _) s)) fun _ => k

/-- `waitP` on ring semaphores `r` of arrays `a`, `b`. -/
def waitC (a b : Fin 6) (r : Dev nD) (k : P F) : P F :=
  .op (.waitDma2 (semR a r) (sQ r) (sQ r) (exactQ (wordsQ r)) (exactQ (wordsQ r))) fun _ =>
  .op (.waitDma2 (semR b r) (sO r) (sO r) (exactO (wordsO r)) (exactO (wordsO r))) fun _ => k

/-- `sendP` of chunk `r` to device `n`, on the semaphores named. -/
def sendS (sa sra sb srb : DmaSem sig) (n n' : Dev nD) (vQ : Memref sig .tc .vmem S768x512 .bf16) (eQ : vQ.view.WordExact)
    (vO : Memref sig .tc .vmem S512x768 .bf16) (eO : vO.view.WordExact) (r : Dev nD) (k : P F) : P F :=
  .op (.enqueueDma vQ (.remote (Dev.tc n) (sQ r) (.dma sa)) (.dma sra) eQ (exactQ (wordsQ r)) ⟨⟨rfl, Or.inl rfl⟩, trivial⟩) fun _ =>
  .op (.enqueueDma vO (.remote (Dev.tc n') (sO r) (.dma sb)) (.dma srb) eO (exactO (wordsO r)) ⟨⟨rfl, Or.inl rfl⟩, trivial⟩) fun _ => k

/-- `sendP` of chunk `r` to device `n`. -/
def sendC (a b : Fin 6) (n : Dev nD) (vQ : Memref sig .tc .vmem S768x512 .bf16) (eQ : vQ.view.WordExact)
    (vO : Memref sig .tc .vmem S512x768 .bf16) (eO : vO.view.WordExact) (r : Dev nD) (k : P F) : P F :=
  sendS (semR a r) (semR 2 r) (semR b r) (semR 5 r) n n vQ eQ vO eO r k

abbrev ownC (a b : Fin 6) (n r : Dev nD) (k : P F) : P F := sendC a b n mQ (hstage0_1 0).wordExact mO (hstage0_2 0).wordExact r k
abbrev passC (a b : Fin 6) (n r : Dev nD) (k : P F) : P F := sendC a b n (sQ r) (exactQ (wordsQ r)) (sO r) (exactO (wordsO r)) r k

/-- `readP` of chunk `r`. -/
def readC (r : Dev nD) (k : FVec F S768x512 .bf16 → FVec F S512x768 .bf16 → P F) : P F :=
  .op (.load (Memref.whole cc0_scratch0) (Rect.unit (s := S8x768x512) ![r.val, 0, 0] S1x768x512.size (inbQ r)).toLoadRect (View.loadsAt_vmem h_S1x768x512)) fun wq =>
  .op (.load (Memref.whole cc0_scratch1) (Rect.unit (s := S8x512x768) ![r.val, 0, 0] S1x512x768.size (inbO r)).toLoadRect (View.loadsAt_vmem h_S1x512x768)) fun wo =>
  k (shapeCast S768x512 wq shapeCasts_S1x768x512_S768x512) (shapeCast S512x768 wo shapeCasts_S1x512x768_S512x768)

theorem fetchP_eq {o : Fin 4 → Nat} {r : Dev nD} (ho : o = ![r.val, 0, 0, 0]) (h) (w) (s : Fin 2) (k : P F) : fetchP o h w s k = fetchC r s k := by
  subst ho
  show fetchS (semOf cc0_scratch10 s) (semOf cc0_scratch11 s) r s k = _
  rw [semOf_eq.1 s, semOf_eq.2 s]; rfl
theorem fetchedP_eq {o : Fin 4 → Nat} {r : Dev nD} (ho : o = ![r.val, 0, 0, 0]) (h) (w) (s : Fin 2) (k : P F) : fetchedP o h w s k = fetchedC r s k := by
  subst ho; unfold fetchedP fetchedC; rw [semOf_eq.1 s, semOf_eq.2 s]
theorem waitP_eq {A B : DmaSems sig S8} {a b : Fin 6} {r : Dev nD} (hA : ∀ h, semAt A ![r.val] h = semR a r) (hB : ∀ h, semAt B ![r.val] h = semR b r)
    {o6 : Fin 1 → Nat} (e6 : o6 = ![r.val]) (h6) {o7 : Fin 3 → Nat} (e7 : o7 = ![r.val, 0, 0]) (h7) (w7) {o8 : Fin 3 → Nat} (e8 : o8 = ![r.val, 0, 0]) (h8) (w8)
    (k : P F) : waitP A B o6 h6 o7 h7 w7 o8 h8 w8 k = waitC a b r k := by
  subst e6 e7 e8; unfold waitP waitC; rw [hA, hB]
theorem sendP_eq {A B : DmaSems sig S8} {a b : Fin 6} {r : Dev nD} (hA : ∀ h, semAt A ![r.val] h = semR a r) (hB : ∀ h, semAt B ![r.val] h = semR b r)
    {n n' m : Dev nD} (hn : n.val = m.val) (hn' : n'.val = m.val) (vQ eQ vO eO)
    {o6 : Fin 1 → Nat} (e6 : o6 = ![r.val]) (h6) {o7 : Fin 3 → Nat} (e7 : o7 = ![r.val, 0, 0]) (h7) (w7) {o8 : Fin 3 → Nat} (e8 : o8 = ![r.val, 0, 0]) (h8) (w8)
    (k : P F) : sendP A B n n' vQ eQ vO eO o6 h6 o7 h7 w7 o8 h8 w8 k = sendC a b m vQ eQ vO eO r k := by
  obtain rfl := Fin.ext hn; obtain rfl := Fin.ext hn'
  subst e6 e7 e8
  show sendS (semAt A _ _) (semAt cc0_scratch6 _ _) (semAt B _ _) (semAt cc0_scratch9 _ _) _ _ vQ eQ vO eO r k = _
  rw [hA, hB, semAt_eq.2.2.1 r, semAt_eq.2.2.2.2.2 r]; rfl
theorem passP_eq {A B : DmaSems sig S8} {a b : Fin 6} {r : Dev nD} (hA : ∀ h, semAt A ![r.val] h = semR a r) (hB : ∀ h, semAt B ![r.val] h = semR b r)
    {n n' m : Dev nD} (hn : n.val = m.val) (hn' : n'.val = m.val)
    {o6 : Fin 1 → Nat} (e6 : o6 = ![r.val]) (h6) {o7 : Fin 3 → Nat} (e7 : o7 = ![r.val, 0, 0]) (h7) (w7) {o8 : Fin 3 → Nat} (e8 : o8 = ![r.val, 0, 0]) (h8) (w8)
    (k : P F) : sendP A B n n' (slotQ o7 h7) (exactQ w7) (slotO o8 h8) (exactO w8) o6 h6 o7 h7 w7 o8 h8 w8 k = passC a b m r k := by
  subst e7 e8; exact sendP_eq hA hB hn hn' _ _ _ _ e6 _ rfl _ _ rfl _ _ _
theorem readP_eq {r : Dev nD} {o9 : Fin 3 → Nat} (e9 : o9 = ![r.val, 0, 0]) (h9) {o10 : Fin 3 → Nat} (e10 : o10 = ![r.val, 0, 0]) (h10)
    (k : FVec F S768x512 .bf16 → FVec F S512x768 .bf16 → P F) :
    readP o9 h9 o10 h10 (fun wq wo => k (shapeCast S768x512 wq shapeCasts_S1x768x512_S768x512) (shapeCast S512x768 wo shapeCasts_S1x512x768_S512x768)) = readC r k := by
  subst e9 e10; rfl

/-- The arithmetic of step `j` on chunk `r`. -/
def sumC (d r : Dev nD) (s : Fin 2) (next : P F → P F) (wq : FVec F S768x512 .bf16) (wo : FVec F S512x768 .bf16)
    (a0 a1 : FVec F S512x768 .f32) (k : FVec F S512x768 .f32 → FVec F S512x768 .f32 → P F) : P F :=
  fetchedC r s <| next <| computeP s (bias d) wq wo fun c0 c1 => k (addf a0 c0) (addf a1 c1)

/-- A step on chunk `r`. -/
def stepC (d r : Dev nD) (s : Fin 2) (pass next : P F → P F) (a0 a1 : FVec F S512x768 .f32)
    (k : FVec F S512x768 .f32 → FVec F S512x768 .f32 → P F) : P F :=
  waitC 2 5 r <| pass <| readC r fun wq wo => sumC d r s next wq wo a0 a1 k

def lastC (d : Dev nD) (a0 a1 : FVec F S512x768 .f32) : P F :=
  storeP 0 a0 <| storeP 1 a1 <|
  waitC 0 3 (d + off 0) <| waitC 0 3 (d + off 1) <| waitC 0 3 (d + off 3) <|
  waitC 1 4 (d + off 0) <| waitC 1 4 (d + off 2) <| waitC 1 4 (d + off 4) <| waitC 1 4 (d + off 6) <| .ret ⟨⟩

def stepsC (d : Dev nD) : P F :=
  .op (.load mQ (Rect.unit (s := S768x512) ![0, 0] S768x512.size inb_S768x512_S768x512_0_0).toLoadRect (View.loadsAt_vmem h_S768x512)) fun wq =>
  .op (.load mO (Rect.unit (s := S512x768) ![0, 0] S512x768.size inb_S512x768_S512x768_0_0).toLoadRect (View.loadsAt_vmem h_S512x768)) fun wo =>
  fetchedC (d + off 0) 0 <| fetchC (d + off 1) 1 <|
  computeP 0 (bias d) (shapeCast S768x512 wq shapeCasts_S768x512_S768x512) (shapeCast S512x768 wo shapeCasts_S512x768_S512x768) fun a0 a1 =>
  stepC d (d + off 1) 1 (passC 0 3 (nxt d) (d + off 1)) (fetchC (d + off 2) 0) a0 a1 fun a0 a1 =>
  stepC d (d + off 2) 0 (passC 1 4 (prv d) (d + off 2)) (fetchC (d + off 3) 1) a0 a1 fun a0 a1 =>
  stepC d (d + off 3) 1 (passC 0 3 (nxt d) (d + off 3)) (fetchC (d + off 4) 0) a0 a1 fun a0 a1 =>
  stepC d (d + off 4) 0 (passC 1 4 (prv d) (d + off 4)) (fetchC (d + off 5) 1) a0 a1 fun a0 a1 =>
  stepC d (d + off 5) 1 (fun k => k) (fetchC (d + off 6) 0) a0 a1 fun a0 a1 =>
  stepC d (d + off 6) 0 (passC 1 4 (prv d) (d + off 6)) (fetchC (d + off 7) 1) a0 a1 fun a0 a1 =>
  stepC d (d + off 7) 1 (fun k => k) (fun k => k) a0 a1 fun a0 a1 =>
  lastC d a0 a1

/-- What device `d` runs. -/
def bodyC (d : Dev nD) : P F :=
  fetchC (d + off 0) 0 <|
  .op (.semSignal (Dev.tc (prv d)) barS 1) fun _ => .op (.semSignal (Dev.tc (nxt d)) barS 1) fun _ =>
  .op (.semWait barS 2) fun _ =>
  ownC 0 3 (nxt d) (d + off 0) <| ownC 1 4 (prv d) (d + off 0) <| stepsC d

variable (d : Dev nD)

theorem waitD_eq {A B : DmaSems sig S8} {a b : Fin 6} (hA : ∀ r : Dev nD, ∀ h, semAt A ![r.val] h = semR a r) (hB : ∀ r : Dev nD, ∀ h, semAt B ![r.val] h = semR b r)
    (i : Fin 8) (k : P F) : waitD A B d i k = waitC a b (d + off (i + 1)) k :=
  waitP_eq (hA _) (hB _) (off6_eq d i) _ (off7_eq d i) _ _ (off8_eq d i) _ _ k

theorem stepP_eq (i : Fin 7) (s : Fin 2) {pass next pass' next' : P F → P F} (hp : ∀ k, pass k = pass' k) (hn : ∀ k, next k = next' k)
    (a0 a1 : FVec F S512x768 .f32) {k k' : FVec F S512x768 .f32 → FVec F S512x768 .f32 → P F} (hk : ∀ a0 a1, k a0 a1 = k' a0 a1) :
    stepP d i s pass next a0 a1 k = stepC d (d + off i.succ) s pass' next' a0 a1 k' := by
  obtain rfl : k = k' := funext fun a => funext fun b => hk a b
  obtain rfl : pass = pass' := funext hp
  obtain rfl : next = next' := funext hn
  unfold stepP stepC sumP sumC
  rw [waitD_eq d semAt_eq.2.2.1 semAt_eq.2.2.2.2.2, show i.castSucc + 1 = i.succ from by revert i; decide]
  unfold readD
  rw [readP_eq (off9_eq d i) _ (off10_eq d i) _ (fun wq wo => fetchedD d i.succ s (next (computeP s (bias d) wq wo fun c0 c1 => k (addf a0 c0) (addf a1 c1))))]
  refine congrArg _ (congrArg _ (congrArg _ (funext fun wq => funext fun wo => ?_)))
  exact fetchedP_eq (off5_eq d i.succ) _ _ _ _

theorem lastP_eq (a0 a1 : FVec F S512x768 .f32) : lastP d a0 a1 = lastC d a0 a1 := by
  unfold lastP lastC
  simp only [waitD_eq d semAt_eq.1 semAt_eq.2.2.2.1, waitD_eq d semAt_eq.2.1 semAt_eq.2.2.2.2.1]
  rfl

theorem stepsP_eq : stepsP (F := F) d = stepsC d := by
  obtain ⟨-, -, -, ⟨d7, d8⟩, ⟨d9, d10⟩, ⟨d11, d12⟩, ⟨d13, d14⟩, ⟨d15, d16⟩⟩ := dev_eq d
  unfold stepsP stepsC
  refine congrArg _ (funext fun wq => congrArg _ (funext fun wo => ?_))
  refine (fetchedP_eq (off5_eq d 0) _ _ _ _).trans (congrArg _ ((fetchP_eq (off5_eq d 1) _ _ _ _).trans (congrArg _ ?_)))
  refine congrArg _ (funext fun a0 => funext fun a1 => ?_)
  have hf : ∀ (j : Fin 8) (s : Fin 2) (k : P F), fetchD d j s k = fetchC (d + off j) s k := fun j s k => fetchP_eq (off5_eq d j) _ _ _ _
  refine stepP_eq d 0 _ (fun k => passP_eq (semAt_eq.1 _) (semAt_eq.2.2.2.1 _) d7 d8 (off6_eq d 0) _ (off7_eq d 0) _ _ (off8_eq d 0) _ _ k) (hf 2 0) _ _ fun a0 a1 => ?_
  refine stepP_eq d 1 _ (fun k => passP_eq (semAt_eq.2.1 _) (semAt_eq.2.2.2.2.1 _) d9 d10 (off6_eq d 1) _ (off7_eq d 1) _ _ (off8_eq d 1) _ _ k) (hf 3 1) _ _ fun a0 a1 => ?_
  refine stepP_eq d 2 _ (fun k => passP_eq (semAt_eq.1 _) (semAt_eq.2.2.2.1 _) d11 d12 (off6_eq d 2) _ (off7_eq d 2) _ _ (off8_eq d 2) _ _ k) (hf 4 0) _ _ fun a0 a1 => ?_
  refine stepP_eq d 3 _ (fun k => passP_eq (semAt_eq.2.1 _) (semAt_eq.2.2.2.2.1 _) d13 d14 (off6_eq d 3) _ (off7_eq d 3) _ _ (off8_eq d 3) _ _ k) (hf 5 1) _ _ fun a0 a1 => ?_
  refine stepP_eq d 4 _ (fun k => rfl) (hf 6 0) _ _ fun a0 a1 => ?_
  refine stepP_eq d 5 _ (fun k => passP_eq (semAt_eq.2.1 _) (semAt_eq.2.2.2.2.1 _) d15 d16 (off6_eq d 5) _ (off7_eq d 5) _ _ (off8_eq d 5) _ _ k) (hf 7 1) _ _ fun a0 a1 => ?_
  exact stepP_eq d 6 _ (fun k => rfl) (fun k => rfl) _ _ fun a0 a1 => lastP_eq d a0 a1

theorem bodyP_eq : bodyP (F := F) = .op .deviceId fun d => bodyC d := by
  unfold bodyP
  refine congrArg _ (funext fun d => ?_)
  obtain ⟨⟨d1, d2⟩, ⟨d3, d4⟩, ⟨d5, d6⟩, -⟩ := dev_eq d
  obtain ⟨e1, e2⟩ : (⟨k0_dev1 d, k0_dev1_lt d⟩ : Dev nD) = prv d ∧ (⟨k0_dev2 d, k0_dev2_lt d⟩ : Dev nD) = nxt d := ⟨Fin.ext d1, Fin.ext d2⟩
  unfold bodyC
  rw [e1, e2, fetchP_eq (off1_eq d), stepsP_eq]
  refine congrArg _ (congrArg _ (funext fun _ => congrArg _ (funext fun _ => congrArg _ (funext fun _ => ?_))))
  refine (sendP_eq (semAt_eq.1 _) (semAt_eq.2.2.2.1 _) d3 d4 _ _ _ _ (off2_eq d) _ (off3_eq d) _ _ (off4_eq d) _ _ _).trans (congrArg _ ?_)
  exact sendP_eq (semAt_eq.2.1 _) (semAt_eq.2.2.2.2.1 _) d5 d6 _ _ _ _ (off2_eq d) _ (off3_eq d) _ _ (off4_eq d) _ _ _

/-- What the pipeline calls, over chunk numbers. -/
theorem body_canon (t : Fin cfg0.N) : bodyAt0 (F := F) t = .op .deviceId fun d => bodyC d := (body_eq t).trans bodyP_eq

end Cert.KernelIdeal.Ring

end
-- ==== Proof.Protocol.lean ====
module

public import proofs.«01_k».proof.Proof.Canon
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Lib.Tactic
public import Idealize.ShloMosaic.Lib.MemrefSat

/-! # Who hands what to whom

Eight devices in a ring. Each semaphore a device waits on, who raises it, and what comes with it:

* the barrier: both neighbours raise it once. The right neighbour's unit brings those of its slots this
  device will fill (three), the left neighbour's those of its own (four), each with the fact that the
  slot's landing semaphores are open. A device's own chunk's slot is never handed out.
* the landing pair of slot `r`: one copy each from a neighbour; it brings the slot holding chunk `r` of
  the weights, whoever's copy of it was passed on.
* the sending pair of chunk `r`, right or left: the device's own copy; it brings back the share of the
  source that was lent: a share of the device's own block, or half of the slot the chunk landed in.
* the K and V landing pair of buffer `s`, four rounds: the device's own fetch of its chunk `2ρ + s`; it brings
  the buffer holding the chunk and the chunk's part of the source.

Send `i` of a device goes to its right (`i = 0, 2, 4`) or left neighbour and carries the chunk the
neighbour reads at its step `i + 1`; the copies are numbered so that a device waiting in step `j` owes only
sends the others wait for in later steps, which is what keeps the ring from stopping. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The sends -/

/-- How far round send `i` goes: one to the right or one to the left. -/
def dd : Fin 7 → Fin 8 := ![1, 7, 1, 7, 1, 7, 7]
/-- Which chunk send `i` carries, counted from the sender. -/
def so : Fin 7 → Fin 8 := ![0, 0, 7, 1, 6, 2, 3]
/-- The pair of sending semaphores of send `i`. -/
def sa : Fin 7 → Fin 6 := ![0, 1, 0, 1, 0, 1, 1]
def sb : Fin 7 → Fin 6 := ![3, 4, 3, 4, 3, 4, 4]

/-- Send `i` carries the chunk its target reads at step `i + 1`. -/
theorem chunk_eq : ∀ (c : Dev nD) (i : Fin 7), c + dd i + off i.succ = c + so i := by decide

/-! ## The data -/

/-- What the devices hold on entry: activations, a chunk of either weight, and all of K and V. -/
structure Data (F : FTy → Type) where
  x : Dev nD → S2x512x768.Idx → Elt F .bf16
  wq : Dev nD → S768x512.Idx → Elt F .bf16
  wo : Dev nD → S512x768.Idx → Elt F .bf16
  k : Dev nD → S8x2x512x512.Idx → Elt F .bf16
  v : Dev nD → S8x2x512x512.Idx → Elt F .bf16

variable (D : Data F)

/-- Chunk `r` of what device `c` holds of K; of V. -/
def Data.kc (c r : Dev nD) : S2x512x512.Idx → Elt F .bf16 := (chunk mK r).view.read (Elt F) (D.k c)
@[inherit_doc Data.kc] def Data.vc (c r : Dev nD) : S2x512x512.Idx → Elt F .bf16 := (chunk mV r).view.read (Elt F) (D.v c)

/-! ## The payloads -/

/-- Slot `r` of device `e` at contents not chosen, with round 0 of its landing pair reached. -/
def open1 (e r : Dev nD) : sProp 𝕄 :=
  iprop((∃ w, owns (e : Thread nD τ) (sQ r) fullShare w) ∗ (∃ w, owns (e : Thread nD τ) (sO r) fullShare w)
    ∗ reached ER ((e : Thread nD τ), .dma (semR 2 r)) 0 ∗ reached ER ((e : Thread nD τ), .dma (semR 5 r)) 0)

/-- The slot send `i` of device `c` fills. -/
def hand (c : Dev nD) (i : Fin 7) : sProp 𝕄 := open1 (c + dd i) (c + so i)

/-- The third of its own blocks a device lends to the send right (`false`), or left. -/
def third (b : Bool) : PosShare TreeShare := if b then fullShare.right.left else fullShare.left

/-- What the send of chunk `r` is lent. -/
def lentQ (c r : Dev nD) (b : Bool) : sProp 𝕄 :=
  if r = c then owns (c : Thread nD τ) mQ (third b) (D.wq c) else owns (c : Thread nD τ) (sQ r) fullShare.left (D.wq r)
@[inherit_doc lentQ] def lentO (c r : Dev nD) (b : Bool) : sProp 𝕄 :=
  if r = c then owns (c : Thread nD τ) mO (third b) (D.wo c) else owns (c : Thread nD τ) (sO r) fullShare.left (D.wo r)

def ringPay (c : Dev nD) (a : Fin 6) (r : Dev nD) : sProp 𝕄 :=
  match a with
  | 0 => lentQ D c r false
  | 1 => lentQ D c r true
  | 2 => owns (c : Thread nD τ) (sQ r) fullShare (D.wq r)
  | 3 => lentO D c r false
  | 4 => lentO D c r true
  | 5 => owns (c : Thread nD τ) (sO r) fullShare (D.wo r)

/-- Fetch `ρ` into buffer `s` is fetch `2ρ + s`. -/
def fj (s : Fin 2) (ρ : ℕ) : Fin 8 := ⟨(2 * ρ + s.val) % 8, Nat.mod_lt _ (by decide)⟩

/-- Chunk `r` of the source of K, or of V. -/
def srcK (c r : Dev nD) : sProp 𝕄 := (chunk mK r).view.loc (c : Thread nD τ) ↦[(chunk mK r).view.set]{fullShare} D.k c
@[inherit_doc srcK] def srcV (c r : Dev nD) : sProp 𝕄 := (chunk mV r).view.loc (c : Thread nD τ) ↦[(chunk mV r).view.set]{fullShare} D.v c

def kvPay (c : Dev nD) (b s : Fin 2) (j : Fin 8) : sProp 𝕄 :=
  if b = 0 then iprop(owns (c : Thread nD τ) (bufOf bK s) fullShare (D.kc c (c + off j)) ∗ srcK D c (c + off j))
  else iprop(owns (c : Thread nD τ) (bufOf bV s) fullShare (D.vc c (c + off j)) ∗ srcV D c (c + off j))

/-! ## The kinds of semaphore -/

inductive Kd where
  | bar | ring (a : Fin 6) (r : Dev nD) | kv (b s : Fin 2) | other
  deriving DecidableEq

/-- A DMA semaphore's kind, from its number. -/
def kdN (n : ℕ) : Kd :=
  if n < 4 then .other
  else if n < 52 then .ring ⟨(n - 4) / 8 % 6, Nat.mod_lt _ (by decide)⟩ ⟨(n - 4) % 8, Nat.mod_lt _ (by decide)⟩
  else .kv ⟨(n - 52) / 2 % 2, Nat.mod_lt _ (by decide)⟩ ⟨(n - 52) % 2, Nat.mod_lt _ (by decide)⟩

def kd : SemLoc sig → Kd
  | .reg _ => .bar
  | .dma s => kdN s.val

theorem kd_ring : ∀ (a : Fin 6) (r : Dev nD), kd (.dma (semR a r)) = .ring a r := by decide
theorem kd_kv : ∀ b s : Fin 2, kd (.dma (semK b s)) = .kv b s := by decide
theorem kd_bar : kd (.reg barS) = .bar := rfl

/-! ## The schedule -/

def NQ : ℕ := (sQ 0).view.dmaCredit
def NO : ℕ := (sO 0).view.dmaCredit
def NKV : ℕ := (bufOf bK 0).view.dmaCredit
theorem NQ_pos : 0 < NQ := View.dmaCredit_pos _ (by decide)
theorem NO_pos : 0 < NO := View.dmaCredit_pos _ (by decide)
theorem NKV_pos : 0 < NKV := View.dmaCredit_pos _ (by decide)

def amt : Kd → ℕ
  | .bar => 1
  | .ring a _ => if a.val < 3 then NQ else NO
  | .kv _ _ => NKV
  | .other => 1

theorem amt_pos (k : Kd) : 0 < amt k := by
  cases k with
  | ring a r =>
    show 0 < if a.val < 3 then NQ else NO
    split; exacts [NQ_pos, NO_pos]
  | kv b s => exact NKV_pos
  | bar => exact Nat.one_pos
  | other => exact Nat.one_pos

def dut : Kd → ℕ → Finset Bool
  | .bar, r => if r = 0 then {false, true} else ∅
  | .ring _ _, r => if r = 0 then {false} else ∅
  | .kv _ _, r => if r < 4 then {false} else ∅
  | .other, _ => ∅

/-- What a barrier unit brings: the right neighbour's slots, or the left neighbour's. -/
def barPay (c : Dev nD) : Bool → sProp 𝕄
  | false => iprop(hand (F := F) c 0 ∗ hand (F := F) c 2 ∗ hand (F := F) c 4)
  | true => iprop(hand (F := F) c 1 ∗ hand (F := F) c 3 ∗ hand (F := F) c 5 ∗ hand (F := F) c 6)

def pay (c : Dev nD) : Kd → ℕ → Bool → sProp 𝕄
  | .bar, _, b => barPay c b
  | .ring a r, _, _ => ringPay D c a r
  | .kv b s, ρ, _ => kvPay D c b s (fj s ρ)
  | .other, _, _ => iprop(emp)

def Rd : Rounds.Schedule (GSem nD τ sig) Bool 𝕄 where
  duties g r := dut (kd g.2) r
  unitless _ := False
  amount g _ _ := amt (kd g.2)
  payload g r d := pay D g.1.1 (kd g.2) r d
  amount_pos _ _ _ _ := amt_pos _

instance hand_storable (c : Dev nD) (i : Fin 7) : BI.Storable (upEmb : UEmb _ 𝕄) (hand (F := F) c i) := by
  unfold hand open1; infer_instance
instance barPay_storable (c : Dev nD) (b : Bool) : BI.Storable (upEmb : UEmb _ 𝕄) (barPay (F := F) c b) := by
  cases b <;> (unfold barPay; infer_instance)
instance ringPay_storable (c : Dev nD) (a : Fin 6) (r : Dev nD) : BI.Storable (upEmb : UEmb _ 𝕄) (ringPay D c a r) := by
  unfold ringPay lentQ lentO
  (repeat' split) <;> infer_instance
instance kvPay_storable (c : Dev nD) (b s : Fin 2) (j : Fin 8) : BI.Storable (upEmb : UEmb _ 𝕄) (kvPay D c b s j) := by
  unfold kvPay srcK srcV; split <;> infer_instance
instance payload_storable (g : GSem nD τ sig) (r : ℕ) (d : Bool) : BI.Storable (upEmb : UEmb _ 𝕄) ((Rd D).payload g r d) := by
  show BI.Storable _ (pay D g.1.1 (kd g.2) r d)
  cases kd g.2 <;> (unfold pay; infer_instance)

/-! ## The schedule read at each kind -/

section Read

variable (c : Dev nD)

abbrev gR (c : Dev nD) (a : Fin 6) (r : Dev nD) : GSem nD τ sig := ((c : Thread nD τ), .dma (semR a r))
abbrev gK (c : Dev nD) (b s : Fin 2) : GSem nD τ sig := ((c : Thread nD τ), .dma (semK b s))
abbrev gB (c : Dev nD) : GSem nD τ sig := ((c : Thread nD τ), .reg barS)

theorem duties_ring (a : Fin 6) (r : Dev nD) (ρ : ℕ) : (Rd D).duties (gR c a r) ρ = if ρ = 0 then {false} else ∅ := by
  show dut (kd (.dma (semR a r))) ρ = _; rw [kd_ring]; rfl
theorem duties_kv (b s : Fin 2) (ρ : ℕ) : (Rd D).duties (gK c b s) ρ = if ρ < 4 then {false} else ∅ := by
  show dut (kd (.dma (semK b s))) ρ = _; rw [kd_kv]; rfl
theorem duties_bar (ρ : ℕ) : (Rd D).duties (gB c) ρ = if ρ = 0 then {false, true} else ∅ := rfl

theorem amount_ring (a : Fin 6) (r : Dev nD) (ρ : ℕ) (d : Bool) : (Rd D).amount (gR c a r) ρ d = if a.val < 3 then NQ else NO := by
  show amt (kd (.dma (semR a r))) = _; rw [kd_ring]; rfl
theorem amount_kv (b s : Fin 2) (ρ : ℕ) (d : Bool) : (Rd D).amount (gK c b s) ρ d = NKV := by
  show amt (kd (.dma (semK b s))) = _; rw [kd_kv]; rfl
theorem amount_bar (ρ : ℕ) (d : Bool) : (Rd D).amount (gB c) ρ d = 1 := rfl

theorem payload_ring (a : Fin 6) (r : Dev nD) (ρ : ℕ) (d : Bool) : (Rd D).payload (gR c a r) ρ d = ringPay D c a r := by
  show pay D c (kd (.dma (semR a r))) ρ d = _; rw [kd_ring]; rfl
theorem payload_kv (b s : Fin 2) (ρ : ℕ) (d : Bool) : (Rd D).payload (gK c b s) ρ d = kvPay D c b s (fj s ρ) := by
  show pay D c (kd (.dma (semK b s))) ρ d = _; rw [kd_kv]; rfl
theorem payload_bar (ρ : ℕ) (d : Bool) : (Rd D).payload (gB c) ρ d = barPay c d := rfl

theorem expect_ring (a : Fin 6) (r : Dev nD) : (Rd D).expect (gR c a r) 0 = if a.val < 3 then NQ else NO := by
  unfold Schedule.expect Schedule.amountOf; rw [duties_ring, if_pos rfl, Finset.sum_singleton, amount_ring]
theorem expect_kv (b s : Fin 2) (ρ : ℕ) (h : ρ < 4) : (Rd D).expect (gK c b s) ρ = NKV := by
  unfold Schedule.expect Schedule.amountOf; rw [duties_kv, if_pos h, Finset.sum_singleton, amount_kv]
theorem expect_bar : (Rd D).expect (gB c) 0 = 2 := by
  unfold Schedule.expect Schedule.amountOf; rw [duties_bar, if_pos rfl, Finset.sum_pair (by decide), amount_bar, amount_bar]

theorem rest_ring (a : Fin 6) (r : Dev nD) :
    bigSep ((Rd D).duties (gR c a r) 0 \ ∅) (fun d => (Rd D).payload (gR c a r) 0 d) = ringPay D c a r := by
  rw [Finset.sdiff_empty, duties_ring, if_pos rfl, bigSep_singleton, payload_ring]
theorem rest_kv (b s : Fin 2) (ρ : ℕ) (h : ρ < 4) :
    bigSep ((Rd D).duties (gK c b s) ρ \ ∅) (fun d => (Rd D).payload (gK c b s) ρ d) = kvPay D c b s (fj s ρ) := by
  rw [Finset.sdiff_empty, duties_kv, if_pos h, bigSep_singleton, payload_kv]
theorem rest_bar : bigSep ((Rd D).duties (gB c) 0 \ ∅) (fun d => (Rd D).payload (gB c) 0 d) = iprop(barPay c false ∗ barPay c true) := by
  rw [Finset.sdiff_empty, duties_bar, if_pos rfl, bigSep_insert (by decide), bigSep_singleton, payload_bar, payload_bar]; rfl

theorem mem_ring (a : Fin 6) (r : Dev nD) : false ∈ (Rd D).duties (gR c a r) 0 := by rw [duties_ring, if_pos rfl]; exact Finset.mem_singleton_self _
theorem mem_kv (b s : Fin 2) (ρ : ℕ) (h : ρ < 4) : false ∈ (Rd D).duties (gK c b s) ρ := by rw [duties_kv, if_pos h]; exact Finset.mem_singleton_self _
theorem mem_bar (d : Bool) : d ∈ (Rd D).duties (gB c) 0 := by rw [duties_bar, if_pos rfl]; cases d <;> decide

end Read

/-! ## What is owed, and the levels -/

/-- The landing pair send `i` of device `c` raises. -/
def tQ (c : Dev nD) (i : Fin 7) : CellTallies nD τ sig Unit := tallyAt (gR (c + dd i) 2 (c + so i)) () NQ
@[inherit_doc tQ] def tO (c : Dev nD) (i : Fin 7) : CellTallies nD τ sig Unit := tallyAt (gR (c + dd i) 5 (c + so i)) () NO

/-- What a device still to make the sends `l` owes. -/
def Owed (c : Dev nD) : List (Fin 7) → CellTallies nD τ sig Unit
  | [] => 0
  | i :: l => Owed c l + tO c i + tQ c i

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The step a device works on the chunk `o` round from it. -/
def stp : Fin 8 → ℕ := ![0, 2, 4, 6, 7, 5, 3, 1]

def lvK (d : Dev nD) : Kd → ℕ
  | .bar => 1
  | .ring a r => if a = 2 ∨ a = 5 then 1 + stp (r - d) else 0
  | _ => 0
/-- The barrier at 1, the landing pair waited for in step `j` at `1 + j`, the rest at 0. -/
def lv (g : GSem nD τ sig) (_ : Unit) : ℕ := lvK g.1.1 (kd g.2)

theorem lv_recv (d : Dev nD) (a : Fin 6) (r : Dev nD) (h : a = 2 ∨ a = 5) : lv (gR d a r) () = 1 + stp (r - d) := by
  show lvK d (kd (.dma (semR a r))) = _; rw [kd_ring]; exact if_pos h
theorem lv_send (d : Dev nD) (a : Fin 6) (r : Dev nD) (h : ¬(a = 2 ∨ a = 5)) : lv (gR d a r) () = 0 := by
  show lvK d (kd (.dma (semR a r))) = _; rw [kd_ring]; exact if_neg h
theorem lv_kv (d : Dev nD) (b s : Fin 2) : lv (gK d b s) () = 0 := by
  show lvK d (kd (.dma (semK b s))) = _; rw [kd_kv]; rfl
theorem lv_bar (d : Dev nD) : lv (gB d) () = 1 := rfl
theorem stp_send : ∀ (c : Dev nD) (i : Fin 7), stp (c + so i - (c + dd i)) = i.val + 1 := by decide
theorem stp_off : ∀ (c : Dev nD) (j : Fin 8), stp (c + off j - c) = j.val := by decide

theorem owed_pos (c : Dev nD) (l : List (Fin 7)) (g : GSem nD τ sig) (u : Unit) (h : 0 < Owed c l g u) :
    ∃ i ∈ l, g = gR (c + dd i) 2 (c + so i) ∨ g = gR (c + dd i) 5 (c + so i) := by
  induction l with
  | nil => exact absurd h (Nat.lt_irrefl 0)
  | cons i l ih =>
    have e : Owed c (i :: l) g u = Owed c l g u + tO c i g u + tQ c i g u := rfl
    rw [e] at h
    by_cases h2 : g = gR (c + dd i) 2 (c + so i)
    · exact ⟨i, List.mem_cons_self, .inl h2⟩
    by_cases h5 : g = gR (c + dd i) 5 (c + so i)
    · exact ⟨i, List.mem_cons_self, .inr h5⟩
    have hO : tO c i g u = 0 := by unfold tO; rw [tallyAt_apply, if_neg fun hh => h5 hh.1]
    have hQ : tQ c i g u = 0 := by unfold tQ; rw [tallyAt_apply, if_neg fun hh => h2 hh.1]
    rw [hO, hQ] at h
    obtain ⟨i', hi, hg⟩ := ih h
    exact ⟨i', List.mem_cons_of_mem _ hi, hg⟩

/-- A device may wait on a semaphore below every send it still owes. -/
theorem mayWait_owed (c : Dev nD) (sm : SemLoc sig) (l : List (Fin 7)) (n : ℕ) (hs : lv ((c : Thread nD τ), sm) () ≤ n)
    (hl : ∀ i ∈ l, n < i.val + 2) :
    (levAts L lv : sProp 𝕄) ⊢ MayWait (c : Thread nD τ) sm () (Owed c l) :=
  MayOwe.of_cut (L := L) (lev := lv) n (fun p hp => by rw [Finset.mem_singleton.mp hp, L_tc]; exact Finset.mem_singleton_self _)
    (fun g u hg => by
      obtain ⟨i, -, rfl | rfl⟩ := owed_pos c l g u hg <;> (rw [L_tc]; exact Finset.mem_singleton_self _))
    (fun p hp => by rw [Finset.mem_singleton.mp hp]; exact hs)
    (fun g u hg => by
      obtain ⟨i, hi, rfl | rfl⟩ := owed_pos c l g u hg <;>
      · have := hl i hi
        rw [show lv (gR _ _ _) u = lv (gR _ _ _) () from rfl, lv_recv _ _ _ (by decide), stp_send]; omega)

end Cert.KernelIdeal.Ring

end
-- ==== Proof.Blocks.lean ====
module

public import proofs.«01_k».proof.Proof.Protocol

/-! # The blocks' rules: copies and waits

What a device holds for each copy it makes and each wait, and the rule of each block of its program over
those holdings. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (D : Data F)

/-! ## The cells -/

/-- The semaphores of a device beside its barrier: for each of its sends the sending pair, for each of its steps
    after the first the landing pair, and the four of its K and V buffers. -/
abbrev Ix0 : Type := (Fin 7 × Fin 4) ⊕ (Fin 2 × Fin 2)

def cellI (c : Dev nD) : Ix0 → SemLoc sig
  | .inl (i, 0) => .dma (semR (sa i) (c + so i))
  | .inl (i, 1) => .dma (semR (sb i) (c + so i))
  | .inl (i, 2) => .dma (semR 2 (c + off i.succ))
  | .inl (i, 3) => .dma (semR 5 (c + off i.succ))
  | .inr (b, s) => .dma (semK b s)

def gI (c : Dev nD) (ι : Ix0) : GSem nD τ sig := ((c : Thread nD τ), cellI c ι)

def barCells : Finset (GSem nD τ sig) := Finset.univ.image gB
def scCells : Finset (GSem nD τ sig) := Finset.univ.image fun x : Dev nD × Ix0 => gI x.1 x.2

/-- Every cell's invariant, at the names they were given. -/
def recs (κ : GSem nD τ sig → ℕ) : sProp 𝕄 := bigSep (barCells ∪ scCells) fun g => cellInv ER (Rd D) (κ g) g

instance recs_persistent (κ : GSem nD τ sig → ℕ) : BI.Persistent (recs D κ) := by unfold recs; infer_instance

theorem inv_of (κ : GSem nD τ sig → ℕ) {g : GSem nD τ sig} (h : g ∈ barCells ∪ scCells) : recs D κ ⊢ cellInv ER (Rd D) (κ g) g := by
  exact bigSep_elim h

theorem mem_gI (c : Dev nD) (ι : Ix0) : gI c ι ∈ barCells ∪ scCells :=
  Finset.mem_union_right _ (Finset.mem_image.mpr ⟨(c, ι), Finset.mem_univ _, rfl⟩)
theorem mem_gB (c : Dev nD) : gB c ∈ barCells ∪ scCells := Finset.mem_union_left _ (Finset.mem_image.mpr ⟨c, Finset.mem_univ _, rfl⟩)
theorem mem_sa (c : Dev nD) (i : Fin 7) : gR c (sa i) (c + so i) ∈ barCells ∪ scCells := mem_gI c (.inl (i, 0))
theorem mem_sb (c : Dev nD) (i : Fin 7) : gR c (sb i) (c + so i) ∈ barCells ∪ scCells := mem_gI c (.inl (i, 1))
theorem mem_rQ (c : Dev nD) (i : Fin 7) : gR c 2 (c + off i.succ) ∈ barCells ∪ scCells := mem_gI c (.inl (i, 2))
theorem mem_rO (c : Dev nD) (i : Fin 7) : gR c 5 (c + off i.succ) ∈ barCells ∪ scCells := mem_gI c (.inl (i, 3))
theorem mem_tQ (c : Dev nD) (i : Fin 7) : gR (c + dd i) 2 (c + so i) ∈ barCells ∪ scCells := by rw [← chunk_eq]; exact mem_rQ _ i
theorem mem_tO (c : Dev nD) (i : Fin 7) : gR (c + dd i) 5 (c + so i) ∈ barCells ∪ scCells := by rw [← chunk_eq]; exact mem_rO _ i
theorem mem_gK (c : Dev nD) (b s : Fin 2) : gK c b s ∈ barCells ∪ scCells := mem_gI c (.inr (b, s))

/-! ## What a device holds -/

/-- A device owing `O`, whatever waits it has recorded. -/
def owesE (c : Dev nD) (O : CellTallies nD τ sig Unit) : sProp 𝕄 := iprop(∃ W, owes (c : Thread nD τ) O W)

abbrev WP (c : Dev nD) (k : P F) (Q : PUnit → sProp 𝕄) : sProp 𝕄 := wp frame (wpE (defs₀ (F := F)) 𝒱₀ (c : Thread nD τ) none) Set.univ k Q

/-! ### K and V -/

def kvPos (c : Dev nD) (s : Fin 2) (ρ : ℕ) : sProp 𝕄 :=
  iprop((atPos ER (gK c 0 s) ρ ∅ 0 ∗ reached ER (gK c 0 s) ρ) ∗ (atPos ER (gK c 1 s) ρ ∅ 0 ∗ reached ER (gK c 1 s) ρ))
def kvTok (c : Dev nD) (s : Fin 2) (ρ : ℕ) : sProp 𝕄 := iprop(dutyTok ER (gK c 0 s) ρ false ∗ dutyTok ER (gK c 1 s) ρ false)
def kvCred (c : Dev nD) (s : Fin 2) : sProp 𝕄 := iprop(cred (tallyAt (gK c 0 s) () NKV) ∗ cred (tallyAt (gK c 1 s) () NKV))
def bufAny (c : Dev nD) (s : Fin 2) : sProp 𝕄 :=
  iprop((∃ w, owns (c : Thread nD τ) (bufOf bK s) fullShare w) ∗ ∃ w, owns (c : Thread nD τ) (bufOf bV s) fullShare w)
def bufAt (c : Dev nD) (s : Fin 2) (j : Fin 8) : sProp 𝕄 :=
  iprop(owns (c : Thread nD τ) (bufOf bK s) fullShare (D.kc c (c + off j)) ∗ owns (c : Thread nD τ) (bufOf bV s) fullShare (D.vc c (c + off j)))
def srcAt (c : Dev nD) (j : Fin 8) : sProp 𝕄 := iprop(srcK D c (c + off j) ∗ srcV D c (c + off j))

theorem bufAt_any (c : Dev nD) (s : Fin 2) (j : Fin 8) : bufAt D c s j ⊢ bufAny c s := by
  unfold bufAt bufAny
  iintro ⟨HK, HV⟩
  isplitl [HK]; · iexists _; iexact HK
  iexists _; iexact HV

theorem payload_K (c : Dev nD) (s : Fin 2) (ρ : ℕ) : (Rd D).payload (gK c 0 s) ρ false
    = iprop(owns (c : Thread nD τ) (bufOf bK s) fullShare (D.kc c (c + off (fj s ρ))) ∗ srcK D c (c + off (fj s ρ))) :=
  (payload_kv D c 0 s ρ false).trans (if_pos rfl)
theorem payload_V (c : Dev nD) (s : Fin 2) (ρ : ℕ) : (Rd D).payload (gK c 1 s) ρ false
    = iprop(owns (c : Thread nD τ) (bufOf bV s) fullShare (D.vc c (c + off (fj s ρ))) ∗ srcV D c (c + off (fj s ρ))) :=
  (payload_kv D c 1 s ρ false).trans (if_neg (by decide))

theorem amountKV (A : Memref sig .tc .vmem S2x2x512x512 .bf16) (s b s' : Fin 2) : (bufOf A s).view.amount (.dma (semK b s')) = NKV := rfl

/-- A copy of a chunk of an HBM array into a landing buffer. -/
theorem fetched_pay (c r : Dev nD) (A : Memref sig .tc .hbm S8x2x512x512 .bf16) (B : Memref sig .tc .vmem S2x2x512x512 .bf16) (s : Fin 2)
    (fs : Buf (Elt F) ((chunk A r).view.loc (c : Thread nD τ))) (fd : Buf (Elt F) ((bufOf B s).view.loc (c : Thread nD τ))) :
    iprop(((bufOf B s).view.loc (c : Thread nD τ) ↦[(bufOf B s).view.set]{fullShare} ((bufOf B s).view.write (Elt F) fd ((chunk A r).view.read (Elt F) fs) Finset.univ))
        ∗ ((chunk A r).view.loc (c : Thread nD τ) ↦[(chunk A r).view.set]{fullShare} fs))
      ⊢ (iprop(owns (c : Thread nD τ) (bufOf B s) fullShare ((chunk A r).view.read (Elt F) fs)
        ∗ ((chunk A r).view.loc (c : Thread nD τ) ↦[(chunk A r).view.set]{fullShare} fs)) : sProp 𝕄) := by
  refine sep_mono_left ((owns_intro _ _ _ _).trans ?_)
  rw [View.read_write_univ]

theorem fetch_payK (c r : Dev nD) (s : Fin 2) (ρ : ℕ) (hr : r = c + off (fj s ρ)) (fd : Buf (Elt F) ((bufOf bK s).view.loc (c : Thread nD τ))) :
    iprop(((bufOf bK s).view.loc (c : Thread nD τ) ↦[(bufOf bK s).view.set]{fullShare} ((bufOf bK s).view.write (Elt F) fd ((chunk mK r).view.read (Elt F) (D.k c)) Finset.univ))
        ∗ ((chunk mK r).view.loc (c : Thread nD τ) ↦[(chunk mK r).view.set]{fullShare} D.k c))
      ⊢ (Rd D).payload (gK c 0 s) ρ false := by
  rw [payload_K, ← hr]
  unfold srcK Data.kc
  exact fetched_pay c r mK bK s (D.k c) fd

theorem fetch_payV (c r : Dev nD) (s : Fin 2) (ρ : ℕ) (hr : r = c + off (fj s ρ)) (fd : Buf (Elt F) ((bufOf bV s).view.loc (c : Thread nD τ))) :
    iprop(((bufOf bV s).view.loc (c : Thread nD τ) ↦[(bufOf bV s).view.set]{fullShare} ((bufOf bV s).view.write (Elt F) fd ((chunk mV r).view.read (Elt F) (D.v c)) Finset.univ))
        ∗ ((chunk mV r).view.loc (c : Thread nD τ) ↦[(chunk mV r).view.set]{fullShare} D.v c))
      ⊢ (Rd D).payload (gK c 1 s) ρ false := by
  rw [payload_V, ← hr]
  unfold srcV Data.vc
  exact fetched_pay c r mV bV s (D.v c) fd

theorem wp_fetch (κ : GSem nD τ sig → ℕ) (c r : Dev nD) (s : Fin 2) (ρ : ℕ) (hρ : ρ < 4) (hr : r = c + off (fj s ρ)) (k : P F) (Q : PUnit → sProp 𝕄) :
    iprop((recs D κ ∗ kvPos c s ρ ∗ kvTok c s ρ ∗ bufAny c s ∗ srcAt D c (fj s ρ)) ∗ ((kvPos c s ρ ∗ kvCred c s) -∗ WP c k Q))
      ⊢ WP c (fetchC r s k) Q := by
  unfold fetchC fetchS bufAny srcAt kvTok kvPos
  rw [← hr]
  unfold srcK srcV
  iintro ⟨⟨#HR, ⟨⟨HpK, #HrK⟩, HpV, #HrV⟩, ⟨HtK, HtV⟩, ⟨⟨%wK, HbK⟩, ⟨%wV, HbV⟩⟩, HsK, HsV⟩, Hk⟩
  unfold owns
  icases HbK with ⟨%fK, -, HbK⟩
  icases HbV with ⟨%fV, -, HbV⟩
  iapply (Rounds.wp_copy_pointsTo 𝒱₀ ER (Rd D) (c : Thread nD τ) none (src := chunk mK r) (dst := bufOf bK s)
      (sem := .dma (semK 0 s)) (q := fullShare) (fs := D.k c) (fd := fK) (r := ρ) (d := false) (κ := κ (gK c 0 s))
      (mem_kv D c 0 s ρ hρ) () NKV (amountKV bK s 0 s) (amount_kv D c 0 s ρ false)
      (fetch_payK D c r s ρ hr fK)) $$ [HsK HbK HtK]
  · isplitr; · iapply (inv_of D κ (mem_gK c 0 s)); iexact HR
    isplitl [HsK]; · iexact HsK
    isplitl [HbK]; · iexact HbK
    isplitl [HtK]; · iexact HtK
    iexact HrK
  iintro HcK
  iapply (Rounds.wp_copy_pointsTo 𝒱₀ ER (Rd D) (c : Thread nD τ) none (src := chunk mV r) (dst := bufOf bV s)
      (sem := .dma (semK 1 s)) (q := fullShare) (fs := D.v c) (fd := fV) (r := ρ) (d := false) (κ := κ (gK c 1 s))
      (mem_kv D c 1 s ρ hρ) () NKV (amountKV bV s 1 s) (amount_kv D c 1 s ρ false)
      (fetch_payV D c r s ρ hr fV)) $$ [HsV HbV HtV]
  · isplitr; · iapply (inv_of D κ (mem_gK c 1 s)); iexact HR
    isplitl [HsV]; · iexact HsV
    isplitl [HbV]; · iexact HbV
    isplitl [HtV]; · iexact HtV
    iexact HrV
  iintro HcV
  iapply Hk
  isplitl [HpK HpV]
  · isplitl [HpK]
    · isplitl [HpK]; · iexact HpK
      iexact HrK
    isplitl [HpV]; · iexact HpV
    iexact HrV
  unfold kvCred
  isplitl [HcK]; · iexact HcK
  iexact HcV

theorem wp_fetched (κ : GSem nD τ sig → ℕ) (c r : Dev nD) (s : Fin 2) (ρ : ℕ) (hρ : ρ < 4) (l : List (Fin 7)) (k : P F)
    (Q : PUnit → sProp 𝕄) :
    iprop((recs D κ ∗ levAts L lv ∗ kvPos c s ρ ∗ kvCred c s ∗ owesE c (Owed c l))
        ∗ ((kvPos c s (ρ + 1) ∗ owesE c (Owed c l) ∗ bufAt D c s (fj s ρ) ∗ srcAt D c (fj s ρ)) -∗ WP c k Q))
      ⊢ WP c (fetchedC r s k) Q := by
  unfold fetchedC kvCred kvPos owesE
  iintro ⟨⟨#HR, #Hlev, ⟨⟨HpK, -⟩, HpV, -⟩, ⟨HcK, HcV⟩, ⟨%W, HO⟩⟩, Hk⟩
  iapply (Rounds.wp_wait_rest_token 𝒱₀ ER (Rd D) (c : Thread nD τ) none (κ := κ (gK c 0 s))
      (wpE_waitDma2_eq (src := chunk mK r) (dst := bufOf bK s) 𝒱₀ (c : Thread nD τ) none Set.univ) (Set.mem_univ _) () (O := Owed c l) (W := W) (R := ρ) (m := 0) (T := ∅)
      ((Nat.zero_add _).trans (expect_kv D c 0 s ρ hρ).symm)) $$ [HcK HO HpK]
  · isplitr; · iapply (inv_of D κ (mem_gK c 0 s)); iexact HR
    isplitl [HcK]; · iexact HcK
    isplitl [HO]; · iexact HO
    isplitr; · iapply (mayWait_owed c (.dma (semK 0 s)) l 0 (lv_kv c 0 s).le (fun i _ => by omega)); iexact Hlev
    iexact HpK
  iintro ⟨HO, HpK, #HrK, Hpay⟩
  ihave HpayK := (Entails.of_eq ((rest_kv D c 0 s ρ hρ).trans (if_pos rfl))) $$ Hpay
  iapply (Rounds.wp_wait_rest_token 𝒱₀ ER (Rd D) (c : Thread nD τ) none (κ := κ (gK c 1 s))
      (wpE_waitDma2_eq (src := chunk mV r) (dst := bufOf bV s) 𝒱₀ (c : Thread nD τ) none Set.univ) (Set.mem_univ _) () (O := Owed c l) (R := ρ) (m := 0) (T := ∅)
      ((Nat.zero_add _).trans (expect_kv D c 1 s ρ hρ).symm)) $$ [HcV HO HpV]
  · isplitr; · iapply (inv_of D κ (mem_gK c 1 s)); iexact HR
    isplitl [HcV]; · iexact HcV
    isplitl [HO]; · iexact HO
    isplitr; · iapply (mayWait_owed c (.dma (semK 1 s)) l 0 (lv_kv c 1 s).le (fun i _ => by omega)); iexact Hlev
    iexact HpV
  iintro ⟨HO, HpV, #HrV, Hpay⟩
  ihave HpayV := (Entails.of_eq ((rest_kv D c 1 s ρ hρ).trans (if_neg (by decide)))) $$ Hpay
  unfold bufAt srcAt
  icases HpayK with ⟨HbK, HsK⟩
  icases HpayV with ⟨HbV, HsV⟩
  iapply Hk
  isplitl [HpK HpV]
  · isplitl [HpK]
    · isplitl [HpK]; · iexact HpK
      iexact HrK
    isplitl [HpV]; · iexact HpV
    iexact HrV
  isplitl [HO]; · iexists _; iexact HO
  isplitl [HbK HbV]
  · isplitl [HbK]; · iexact HbK
    iexact HbV
  isplitl [HsK]; · iexact HsK
  iexact HsV

/-! ### The weights -/

/-- Chunk `r` of the weights, in its slot, at share `q`. -/
def slot (c r : Dev nD) (q : PosShare TreeShare) : sProp 𝕄 :=
  iprop(owns (c : Thread nD τ) (sQ r) q (D.wq r) ∗ owns (c : Thread nD τ) (sO r) q (D.wo r))
/-- The device's own blocks at share `q`. -/
def own (c : Dev nD) (q : PosShare TreeShare) : sProp 𝕄 :=
  iprop(owns (c : Thread nD τ) mQ q (D.wq c) ∗ owns (c : Thread nD τ) mO q (D.wo c))

/-- The position in round `n` of a pair of ring semaphores; their two units of credit. -/
def pos2 (c : Dev nD) (a b : Fin 6) (r : Dev nD) (n : ℕ) : sProp 𝕄 := iprop(atPos ER (gR c a r) n ∅ 0 ∗ atPos ER (gR c b r) n ∅ 0)
def cred2 (c : Dev nD) (a b : Fin 6) (r : Dev nD) : sProp 𝕄 := iprop(cred (tallyAt (gR c a r) () NQ) ∗ cred (tallyAt (gR c b r) () NO))

/-- What pays for send `i`. -/
def sndTok (c : Dev nD) (i : Fin 7) : sProp 𝕄 :=
  iprop((dutyTok ER (gR c (sa i) (c + so i)) 0 false ∗ reached ER (gR c (sa i) (c + so i)) 0)
    ∗ (dutyTok ER (gR c (sb i) (c + so i)) 0 false ∗ reached ER (gR c (sb i) (c + so i)) 0)
    ∗ dutyTok ER (gR (c + dd i) 2 (c + so i)) 0 false ∗ dutyTok ER (gR (c + dd i) 5 (c + so i)) 0 false)

theorem sa_lt : ∀ i, (sa i).val < 3 := by decide
theorem sb_ge : ∀ i, ¬(sb i).val < 3 := by decide

theorem lent_pay (c r : Dev nD) (a : Fin 6) {sh : Shape} (src : Memref sig .tc .vmem sh .bf16) (q : PosShare TreeShare)
    (fs : Buf (Elt F) (src.view.loc (c : Thread nD τ))) {X : Vec F sh .bf16} (hf : src.view.read (Elt F) fs = X)
    (h : owns (c : Thread nD τ) src q X ⊢ ringPay D c a r) :
    (src.view.loc (c : Thread nD τ) ↦[src.view.set]{q} fs : sProp 𝕄) ⊢ (Rd D).payload (gR c a r) 0 false := by
  rw [payload_ring]
  subst hf
  exact (owns_intro _ _ _ _).trans h

theorem arrive_Q (c e r : Dev nD) (src : Memref sig .tc .vmem S768x512 .bf16)
    (fs : Buf (Elt F) (src.view.loc (c : Thread nD τ))) (hf : src.view.read (Elt F) fs = D.wq r) (fd : Buf (Elt F) ((sQ r).view.loc (e : Thread nD τ))) :
    ((sQ r).view.loc (e : Thread nD τ) ↦[(sQ r).view.set]{fullShare} ((sQ r).view.write (Elt F) fd (src.view.read (Elt F) fs) Finset.univ) : sProp 𝕄)
      ⊢ (Rd D).payload (gR e 2 r) 0 false := by
  rw [payload_ring, hf]
  refine (owns_intro _ _ _ _).trans ?_
  rw [View.read_write_univ]
  exact .rfl

theorem arrive_O (c e r : Dev nD) (src : Memref sig .tc .vmem S512x768 .bf16)
    (fs : Buf (Elt F) (src.view.loc (c : Thread nD τ))) (hf : src.view.read (Elt F) fs = D.wo r) (fd : Buf (Elt F) ((sO r).view.loc (e : Thread nD τ))) :
    ((sO r).view.loc (e : Thread nD τ) ↦[(sO r).view.set]{fullShare} ((sO r).view.write (Elt F) fd (src.view.read (Elt F) fs) Finset.univ) : sProp 𝕄)
      ⊢ (Rd D).payload (gR e 5 r) 0 false := by
  rw [payload_ring, hf]
  refine (owns_intro _ _ _ _).trans ?_
  rw [View.read_write_univ]
  exact .rfl

/-- Send `i`, from sources at shares `q` lent for it. -/
theorem wp_sendI (κ : GSem nD τ sig → ℕ) (c : Dev nD) (i : Fin 7) (vQ : Memref sig .tc .vmem S768x512 .bf16) (eQ : vQ.view.WordExact)
    (vO : Memref sig .tc .vmem S512x768 .bf16) (eO : vO.view.WordExact) (q : PosShare TreeShare)
    (hQ : owns (c : Thread nD τ) vQ q (D.wq (c + so i)) ⊢ ringPay D c (sa i) (c + so i))
    (hO : owns (c : Thread nD τ) vO q (D.wo (c + so i)) ⊢ ringPay D c (sb i) (c + so i))
    (l : List (Fin 7)) (k : P F) (Q : PUnit → sProp 𝕄) :
    iprop((recs D κ ∗ (owns (c : Thread nD τ) vQ q (D.wq (c + so i)) ∗ owns (c : Thread nD τ) vO q (D.wo (c + so i)))
          ∗ hand (F := F) c i ∗ sndTok c i ∗ owesE c (Owed c (i :: l)))
        ∗ ((cred2 c (sa i) (sb i) (c + so i) ∗ owesE c (Owed c l)) -∗ WP c k Q))
      ⊢ WP c (sendC (sa i) (sb i) (c + dd i) vQ eQ vO eO (c + so i) k) Q := by
  unfold sendC sendS hand open1 sndTok owesE
  iintro ⟨⟨#HR, ⟨HsQ, HsO⟩, ⟨⟨%wQ, HdQ⟩, ⟨%wO, HdO⟩, #HrQ, #HrO⟩, ⟨⟨Hta, #Hra⟩, ⟨Htb, #Hrb⟩, HtQ, HtO⟩, ⟨%W, HO⟩⟩, Hk⟩
  unfold owns
  icases HsQ with ⟨%fQ, %hfQ, HsQ⟩
  icases HsO with ⟨%fO, %hfO, HsO⟩
  icases HdQ with ⟨%gQ, -, HdQ⟩
  icases HdO with ⟨%gO, -, HdO⟩
  iapply (Rounds.wp_send_pointsTo 𝒱₀ ER (Rd D) (c : Thread nD τ) none (c' := ((c + dd i : Dev nD) : Thread nD τ)) (src := vQ) (dst := sQ (c + so i))
      (sS := .dma (semR (sa i) (c + so i))) (sem := .dma (semR 2 (c + so i))) (q := q) (fs := fQ) (fd := gQ)
      (κ₁ := κ (gR c (sa i) (c + so i))) (κ₂ := κ (gR (c + dd i) 2 (c + so i)))
      (r₁ := 0) (r₂ := 0) (d₁ := false) (d₂ := false)
      (mem_ring D c _ _) (mem_ring D (c + dd i) _ _) () () NQ rfl
      ((amount_ring D c (sa i) _ 0 false).trans (if_pos (sa_lt i))) ((amount_ring D (c + dd i) 2 _ 0 false).trans (if_pos (by decide)))
      (Owed c l + tO c i) rfl (W := W)
      (lent_pay D c _ _ vQ q fQ hfQ hQ)
      (arrive_Q D c _ _ vQ fQ hfQ gQ)) $$ [HsQ HdQ HO Hta HtQ]
  · isplitr; · iapply (inv_of D κ (mem_sa c i)); iexact HR
    isplitr; · iapply (inv_of D κ (mem_tQ c i)); iexact HR
    isplitl [HsQ]; · iexact HsQ
    isplitl [HdQ]; · iexact HdQ
    isplitl [HO]; · iexact HO
    isplitl [Hta]; · iexact Hta
    isplitr; · iexact Hra
    isplitl [HtQ]; · iexact HtQ
    iexact HrQ
  iintro ⟨Hca, HO⟩
  iapply (Rounds.wp_send_pointsTo 𝒱₀ ER (Rd D) (c : Thread nD τ) none (c' := ((c + dd i : Dev nD) : Thread nD τ)) (src := vO) (dst := sO (c + so i))
      (sS := .dma (semR (sb i) (c + so i))) (sem := .dma (semR 5 (c + so i))) (q := q) (fs := fO) (fd := gO)
      (κ₁ := κ (gR c (sb i) (c + so i))) (κ₂ := κ (gR (c + dd i) 5 (c + so i)))
      (r₁ := 0) (r₂ := 0) (d₁ := false) (d₂ := false)
      (mem_ring D c _ _) (mem_ring D (c + dd i) _ _) () () NO rfl
      ((amount_ring D c (sb i) _ 0 false).trans (if_neg (sb_ge i))) ((amount_ring D (c + dd i) 5 _ 0 false).trans (if_neg (by decide)))
      (Owed c l) rfl (W := W)
      (lent_pay D c _ _ vO q fO hfO hO)
      (arrive_O D c _ _ vO fO hfO gO)) $$ [HsO HdO HO Htb HtO]
  · isplitr; · iapply (inv_of D κ (mem_sb c i)); iexact HR
    isplitr; · iapply (inv_of D κ (mem_tO c i)); iexact HR
    isplitl [HsO]; · iexact HsO
    isplitl [HdO]; · iexact HdO
    isplitl [HO]; · iexact HO
    isplitl [Htb]; · iexact Htb
    isplitr; · iexact Hrb
    isplitl [HtO]; · iexact HtO
    iexact HrO
  iintro ⟨Hcb, HO⟩
  iapply Hk
  unfold cred2
  isplitl [Hca Hcb]
  · isplitl [Hca]; · iexact Hca
    iexact Hcb
  iexists W; iexact HO

/-- A wait on a pair of ring semaphores, at a level below every send still owed. -/
theorem wp_wait2 (κ : GSem nD τ sig → ℕ) (c : Dev nD) (a b : Fin 6) (r : Dev nD) (ha : a.val < 3) (hb : ¬b.val < 3)
    (ma : gR c a r ∈ barCells ∪ scCells) (mb : gR c b r ∈ barCells ∪ scCells) (l : List (Fin 7)) (n : ℕ)
    (na : lv (gR c a r) () ≤ n) (nb : lv (gR c b r) () ≤ n) (hl : ∀ i ∈ l, n < i.val + 2) (k : P F) (Q : PUnit → sProp 𝕄) :
    iprop((recs D κ ∗ levAts L lv ∗ pos2 c a b r 0 ∗ cred2 c a b r ∗ owesE c (Owed c l))
        ∗ ((pos2 c a b r 1 ∗ owesE c (Owed c l) ∗ ringPay D c a r ∗ ringPay D c b r) -∗ WP c k Q))
      ⊢ WP c (waitC a b r k) Q := by
  unfold waitC pos2 cred2 owesE
  iintro ⟨⟨#HR, #Hlev, ⟨Hpa, Hpb⟩, ⟨Hca, Hcb⟩, ⟨%W, HO⟩⟩, Hk⟩
  iapply (Rounds.wp_wait_rest_token 𝒱₀ ER (Rd D) (c : Thread nD τ) none (κ := κ (gR c a r))
      (wpE_waitDma2_eq (src := sQ r) (dst := sQ r) 𝒱₀ (c : Thread nD τ) none Set.univ) (Set.mem_univ _) () (O := Owed c l) (W := W) (R := 0) (m := 0) (T := ∅)
      ((Nat.zero_add _).trans ((expect_ring D c a r).trans (if_pos ha)).symm)) $$ [Hca HO Hpa]
  · isplitr; · iapply (inv_of D κ ma); iexact HR
    isplitl [Hca]; · iexact Hca
    isplitl [HO]; · iexact HO
    isplitr; · iapply (mayWait_owed c (.dma (semR a r)) l n na hl); iexact Hlev
    iexact Hpa
  iintro ⟨HO, Hpa, -, Hpay⟩
  ihave Hya := (Entails.of_eq (rest_ring D c a r)) $$ Hpay
  iapply (Rounds.wp_wait_rest_token 𝒱₀ ER (Rd D) (c : Thread nD τ) none (κ := κ (gR c b r))
      (wpE_waitDma2_eq (src := sO r) (dst := sO r) 𝒱₀ (c : Thread nD τ) none Set.univ) (Set.mem_univ _) () (O := Owed c l) (R := 0) (m := 0) (T := ∅)
      ((Nat.zero_add _).trans ((expect_ring D c b r).trans (if_neg hb)).symm)) $$ [Hcb HO Hpb]
  · isplitr; · iapply (inv_of D κ mb); iexact HR
    isplitl [Hcb]; · iexact Hcb
    isplitl [HO]; · iexact HO
    isplitr; · iapply (mayWait_owed c (.dma (semR b r)) l n nb hl); iexact Hlev
    iexact Hpb
  iintro ⟨HO, Hpb, -, Hpay⟩
  ihave Hyb := (Entails.of_eq (rest_ring D c b r)) $$ Hpay
  iapply Hk
  isplitl [Hpa Hpb]
  · isplitl [Hpa]; · iexact Hpa
    iexact Hpb
  isplitl [HO]; · iexists _; iexact HO
  isplitl [Hya]; · iexact Hya
  iexact Hyb

/-- The wait of step `i + 1` for its weights. -/
theorem wp_recv (κ : GSem nD τ sig → ℕ) (c : Dev nD) (i : Fin 7) (l : List (Fin 7)) (hl : ∀ i' ∈ l, i < i') (k : P F) (Q : PUnit → sProp 𝕄) :
    iprop((recs D κ ∗ levAts L lv ∗ pos2 c 2 5 (c + off i.succ) 0 ∗ cred2 c 2 5 (c + off i.succ) ∗ owesE c (Owed c l))
        ∗ ((pos2 c 2 5 (c + off i.succ) 1 ∗ owesE c (Owed c l) ∗ slot D c (c + off i.succ) fullShare) -∗ WP c k Q))
      ⊢ WP c (waitC 2 5 (c + off i.succ) k) Q := by
  have h (a : Fin 6) (ha : a = 2 ∨ a = 5) : lv (gR c a (c + off i.succ)) () ≤ i.val + 2 := by
    rw [lv_recv _ _ _ ha, stp_off]; show 1 + (i.val + 1) ≤ _; omega
  exact wp_wait2 D κ c 2 5 _ (by decide) (by decide) (mem_rQ c i) (mem_rO c i) l (i.val + 2) (h 2 (.inl rfl)) (h 5 (.inr rfl))
    (fun i' hi => by have := hl i' hi; have : i.val < i'.val := this; omega) k Q

/-- The wait for send `i` to have left. -/
theorem wp_sent (κ : GSem nD τ sig → ℕ) (c : Dev nD) (i : Fin 7) (k : P F) (Q : PUnit → sProp 𝕄) :
    iprop((recs D κ ∗ levAts L lv ∗ pos2 c (sa i) (sb i) (c + so i) 0 ∗ cred2 c (sa i) (sb i) (c + so i) ∗ owesE c (Owed c []))
        ∗ ((pos2 c (sa i) (sb i) (c + so i) 1 ∗ owesE c (Owed c []) ∗ ringPay D c (sa i) (c + so i) ∗ ringPay D c (sb i) (c + so i)) -∗ WP c k Q))
      ⊢ WP c (waitC (sa i) (sb i) (c + so i) k) Q :=
  wp_wait2 D κ c (sa i) (sb i) _ (sa_lt i) (sb_ge i) (mem_sa c i) (mem_sb c i) [] 0
    (lv_send _ _ _ (by revert i; decide)).le (lv_send _ _ _ (by revert i; decide)).le (fun _ h => absurd h List.not_mem_nil) k Q

/-! ### The barrier -/

theorem wp_bar (κ : GSem nD τ sig → ℕ) (c : Dev nD) (l : List (Fin 7)) (hb : ∀ i ∈ l, 1 < i.val + 2) (k : P F) (Q : PUnit → sProp 𝕄) :
    iprop((recs D κ ∗ levAts L lv ∗ atPos ER (gB c) 0 ∅ 0 ∗ cred (tallyAt (gB c) () 2)
          ∗ (dutyTok ER (gB (prv c)) 0 false ∗ barPay (prv c) false ∗ reached ER (gB (prv c)) 0)
          ∗ (dutyTok ER (gB (nxt c)) 0 true ∗ barPay (nxt c) true ∗ reached ER (gB (nxt c)) 0)
          ∗ owesE c (Owed c l + tallyAt (gB (nxt c)) () 1 + tallyAt (gB (prv c)) () 1))
        ∗ ((atPos ER (gB c) 1 ∅ 0 ∗ owesE c (Owed c l) ∗ barPay c false ∗ barPay c true) -∗ WP c k Q))
      ⊢ WP c (.op (.semSignal (Dev.tc (prv c)) barS 1) fun _ => .op (.semSignal (Dev.tc (nxt c)) barS 1) fun _ => .op (.semWait barS 2) fun _ => k) Q := by
  unfold owesE
  iintro ⟨⟨#HR, #Hlev, Hat, Hc, ⟨Ht1, Hy1, Hr1⟩, ⟨Ht2, Hy2, Hr2⟩, ⟨%W, HO⟩⟩, Hk⟩
  iapply (Rounds.wp_signal 𝒱₀ ER (Rd D) (c : Thread nD τ) none (dst := ((prv c : Dev nD) : Thread nD τ)) (sem := barS) (r := 0) (d := false) (κ := κ (gB (prv c)))
      (mem_bar D (prv c) false) (amount_bar D (prv c) 0 false) () (Owed c l + tallyAt (gB (nxt c)) () 1) rfl) $$ [HO Ht1 Hy1 Hr1]
  · isplitr; · iapply (inv_of D κ (mem_gB (prv c))); iexact HR
    isplitl [HO]; · iexact HO
    isplitl [Ht1]; · iexact Ht1
    isplitl [Hy1]; · iapply (Entails.of_eq (payload_bar D (prv c) 0 false).symm); iexact Hy1
    iexact Hr1
  iintro HO
  iapply (Rounds.wp_signal 𝒱₀ ER (Rd D) (c : Thread nD τ) none (dst := ((nxt c : Dev nD) : Thread nD τ)) (sem := barS) (r := 0) (d := true) (κ := κ (gB (nxt c)))
      (mem_bar D (nxt c) true) (amount_bar D (nxt c) 0 true) () (Owed c l) rfl) $$ [HO Ht2 Hy2 Hr2]
  · isplitr; · iapply (inv_of D κ (mem_gB (nxt c))); iexact HR
    isplitl [HO]; · iexact HO
    isplitl [Ht2]; · iexact Ht2
    isplitl [Hy2]; · iapply (Entails.of_eq (payload_bar D (nxt c) 0 true).symm); iexact Hy2
    iexact Hr2
  iintro HO
  iapply (Rounds.wp_wait_rest_token 𝒱₀ ER (Rd D) (c : Thread nD τ) none (κ := κ (gB c))
      (wpE_semWait_eq 𝒱₀ (c : Thread nD τ) none Set.univ) (Set.mem_univ _) () (O := Owed c l) (W := W) (R := 0) (m := 0) (T := ∅)
      ((Nat.zero_add 2).trans (expect_bar D c).symm)) $$ [Hc HO Hat]
  · isplitr; · iapply (inv_of D κ (mem_gB c)); iexact HR
    isplitl [Hc]; · iexact Hc
    isplitl [HO]; · iexact HO
    isplitr; · iapply (mayWait_owed c (.reg barS) l 1 (lv_bar c).le hb); iexact Hlev
    iexact Hat
  iintro ⟨HO, Hat, -, Hpay⟩
  ihave Hp := (Entails.of_eq (rest_bar D c)) $$ Hpay
  icases Hp with ⟨H1, H2⟩
  iapply Hk
  isplitl [Hat]; · iexact Hat
  isplitl [HO]; · iexists _; iexact HO
  isplitl [H1]; · iexact H1
  iexact H2

end Cert.KernelIdeal.Ring

end
-- ==== Proof.Compute.lean ====
module

public import proofs.«01_k».proof.Proof.Blocks
public import Idealize.ShloMosaic.Lib.ValueLayout
public import Idealize.ShloMosaic.Lib.VecWindow

/-! # The blocks' rules: loads, arithmetic and stores -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F] [Named F]

local notation "𝕄" => MT nD τ sig Unit (Elt F) ℕ UU ℕ

/-! ## What is loaded -/

abbrev rX (b : Fin 2) : Rect S2x512x768 := Rect.unit (s := S2x512x768) ![b.val, 0, 0] S1x512x768.size (inbX b)
abbrev rK (s b : Fin 2) : Rect S2x2x512x512 := Rect.unit (s := S2x2x512x512) ![s.val, b.val, 0, 0] S1x1x512x512.size (inbKVb s b)

/-- Batch `b` of the activations; of a chunk of K or V. -/
def xb (X : Vec F S2x512x768 .bf16) (b : Fin 2) : Vec F S1x512x768 .bf16 := fun j => X ((rX b).emb j)
def kb (C : Vec F S2x512x512 .bf16) (b : Fin 2) : Vec F S1x1x512x512 .bf16 := fun j => C (ix3 b (j 2) (j 3))

theorem at_kb (s b : Fin 2) (j : S1x1x512x512.Idx) (A : Memref sig .tc .vmem S2x2x512x512 .bf16) :
    (bufOf A s).view.emb (ix3 b (j 2) (j 3)) = (A.access (rK s b)).emb j := by
  show A.view.emb (Rect.emb _ (Shape.reshapeEquiv _ (ix3 b (j 2) (j 3)))) = A.view.emb ((rK s b).emb j)
  refine congrArg _ ((congrArg (Rect.emb (Rect.unit (s := S2x2x512x512) ![s.val, 0, 0, 0] S1x2x512x512.size (inbKV s)))
    (reshapeEquiv_ix3_1abc (a := 2) (b := 512) (c := 512) (Shape.Squeezes.numel_eq squeezes_S1x2x512x512_S2x512x512) b (j 2) (j 3))).trans ?_)
  funext a
  have h0 : j 0 = (0 : Fin 1) := Subsingleton.elim (α := Fin 1) _ _
  have h1 : j 1 = (0 : Fin 1) := Subsingleton.elim (α := Fin 1) _ _
  fin_cases a
  · exact Fin.ext (show s.val + 1 * 0 = s.val + 1 * (j 0).val by rw [h0]; rfl)
  · exact Fin.ext (show 0 + 1 * b.val = b.val + 1 * (j 1).val by rw [h1]; show 0 + 1 * b.val = b.val + 1 * 0; omega)
  · rfl
  · rfl

theorem set_kb (s b : Fin 2) (A : Memref sig .tc .vmem S2x2x512x512 .bf16) : (A.access (rK s b)).set ⊆ (bufOf A s).view.set := by
  intro i hi
  obtain ⟨j, -, rfl⟩ := Finset.mem_map.mp hi
  rw [← at_kb]
  exact View.emb_mem_set _ _

theorem read_kb (s b : Fin 2) (f : bK.view.ty.Contents (Elt F)) :
    (bK.access (rK s b)).read (Elt F) f = kb ((bufOf bK s).view.read (Elt F) f) b := by
  funext j
  exact congrArg f (at_kb s b j bK).symm
theorem read_vb (s b : Fin 2) (f : bV.view.ty.Contents (Elt F)) :
    (bV.access (rK s b)).read (Elt F) f = kb ((bufOf bV s).view.read (Elt F) f) b := by
  funext j
  exact congrArg f (at_kb s b j bV).symm

variable (D : Data F)

theorem wp_batch (c : Dev nD) (s b : Fin 2) (q : PosShare TreeShare) (X : Vec F S2x512x768 .bf16) (C V : Vec F S2x512x512 .bf16)
    (k : Vec F S1x512x768 .bf16 → Vec F S1x1x512x512 .bf16 → Vec F S1x1x512x512 .bf16 → P F) (Q : PUnit → sProp 𝕄) :
    iprop((owns (c : Thread nD τ) mX q X ∗ owns (c : Thread nD τ) (bufOf bK s) fullShare C ∗ owns (c : Thread nD τ) (bufOf bV s) fullShare V)
        ∗ ((owns (c : Thread nD τ) mX q X ∗ owns (c : Thread nD τ) (bufOf bK s) fullShare C ∗ owns (c : Thread nD τ) (bufOf bV s) fullShare V)
          -∗ WP c (k (xb X b) (kb C b) (kb V b)) Q))
      ⊢ WP c (batchP s b k) Q := by
  unfold batchP owns
  iintro ⟨⟨⟨%f, %hf, HX⟩, ⟨%g, %hg, HK⟩, ⟨%h, %hh, HV⟩⟩, Hk⟩
  subst hf hg hh
  iapply (wp_load_rect 𝒱₀ (c : Thread nD τ) none Set.univ (m := mX) (r := rX b) (View.set_slice_subset _ _)) $$ HX
  iintro HX
  iapply (wp_load_rect 𝒱₀ (c : Thread nD τ) none Set.univ (m := bK) (r := rK s b) (set_kb s b bK)) $$ HK
  iintro HK
  iapply (wp_load_rect 𝒱₀ (c : Thread nD τ) none Set.univ (m := bV) (r := rK s b) (set_kb s b bV)) $$ HV
  iintro HV
  rw [read_kb, read_vb]
  iapply Hk
  isplitl [HX]
  · iexists f; isplitr; · ipureintro; rfl
    iexact HX
  isplitl [HK]
  · iexists g; isplitr; · ipureintro; rfl
    iexact HK
  iexists h; isplitr; · ipureintro; rfl
  iexact HV

/-- The contribution of step `j` of device `c` to batch `b`. -/
def cont (c : Dev nD) (b : Fin 2) (j : Fin 8) : FVec F S512x768 .f32 :=
  contrib (bias c) (xb (D.x c) b) (D.wq (c + off j)) (D.wo (c + off j)) (kb (D.kc c (c + off j)) b) (kb (D.vc c (c + off j)) b)

theorem wp_compute (c : Dev nD) (s : Fin 2) (j : Fin 8) (q : PosShare TreeShare)
    (k : FVec F S512x768 .f32 → FVec F S512x768 .f32 → P F) (Q : PUnit → sProp 𝕄) :
    iprop((owns (c : Thread nD τ) mX q (D.x c) ∗ bufAt D c s j)
        ∗ ((owns (c : Thread nD τ) mX q (D.x c) ∗ bufAt D c s j) -∗ WP c (k (cont D c 0 j) (cont D c 1 j)) Q))
      ⊢ WP c (computeP s (bias c) (D.wq (c + off j)) (D.wo (c + off j)) k) Q := by
  unfold computeP bufAt
  iintro ⟨H, Hk⟩
  iapply (wp_batch c s 0 q (D.x c) (D.kc c (c + off j)) (D.vc c (c + off j)))
  isplitl [H]; · iexact H
  iintro H
  iapply (wp_batch c s 1 q (D.x c) (D.kc c (c + off j)) (D.vc c (c + off j)))
  isplitl [H]; · iexact H
  iintro H
  iapply Hk
  iexact H

/-! ## The weights -/

theorem set_rQ (r : Dev nD) : ((Memref.whole cc0_scratch0).access (Rect.unit (s := S8x768x512) ![r.val, 0, 0] S1x768x512.size (inbQ r))).set
    ⊆ (sQ r).view.set := by rw [show (sQ r).view.set = _ from View.set_reshape _ _]
theorem set_rO (r : Dev nD) : ((Memref.whole cc0_scratch1).access (Rect.unit (s := S8x512x768) ![r.val, 0, 0] S1x512x768.size (inbO r))).set
    ⊆ (sO r).view.set := by rw [show (sO r).view.set = _ from View.set_reshape _ _]

theorem wp_read (c r : Dev nD) (q : PosShare TreeShare) (k : FVec F S768x512 .bf16 → FVec F S512x768 .bf16 → P F) (Q : PUnit → sProp 𝕄) :
    iprop(slot D c r q ∗ (slot D c r q -∗ WP c (k (D.wq r) (D.wo r)) Q)) ⊢ WP c (readC r k) Q := by
  unfold readC slot owns
  iintro ⟨⟨⟨%f, %hf, HQ⟩, ⟨%g, %hg, HO⟩⟩, Hk⟩
  iapply (wp_load_rect 𝒱₀ (c : Thread nD τ) none Set.univ (m := Memref.whole cc0_scratch0)
    (r := Rect.unit (s := S8x768x512) ![r.val, 0, 0] S1x768x512.size (inbQ r)) (set_rQ r)) $$ HQ
  iintro HQ
  iapply (wp_load_rect 𝒱₀ (c : Thread nD τ) none Set.univ (m := Memref.whole cc0_scratch1)
    (r := Rect.unit (s := S8x512x768) ![r.val, 0, 0] S1x512x768.size (inbO r)) (set_rO r)) $$ HO
  iintro HO
  rw [show shapeCast S768x512 (((Memref.whole cc0_scratch0).access (Rect.unit (s := S8x768x512) ![r.val, 0, 0] S1x768x512.size (inbQ r))).read (Elt F) f)
      shapeCasts_S1x768x512_S768x512 = D.wq r from hf,
    show shapeCast S512x768 (((Memref.whole cc0_scratch1).access (Rect.unit (s := S8x512x768) ![r.val, 0, 0] S1x512x768.size (inbO r))).read (Elt F) g)
      shapeCasts_S1x512x768_S512x768 = D.wo r from hg]
  iapply Hk
  isplitl [HQ]
  · iexists f; isplitr; · ipureintro; exact hf
    iexact HQ
  iexists g; isplitr; · ipureintro; exact hg
  iexact HO

theorem full_eq {s : Shape} {e : EltTy} {sp : Space} (m : Memref sig .tc sp s e) {o : Fin s.rank → ℕ} (inb : ∀ a, o a + s.size a ≤ s.size a)
    (h : s.ShapeCasts s) (f : m.view.ty.Contents (Elt F)) {X : s.Idx → Elt F e} (hf : m.view.read (Elt F) f = X) :
    shapeCast s ((m.access (Rect.unit o s.size inb)).read (Elt F) f) h = X := by
  rw [show (m.access (Rect.unit o s.size inb)).read (Elt F) f = X from ?_]
  · exact shapeCast_self X h
  funext z
  show m.view.read (Elt F) f ((Rect.unit o s.size inb).emb z) = X z
  rw [Rect.emb_unit_full, hf]

/-- The loads of the device's own blocks. -/
theorem wp_readOwn (c : Dev nD) (q : PosShare TreeShare) (k : FVec F S768x512 .bf16 → FVec F S512x768 .bf16 → P F) (Q : PUnit → sProp 𝕄) :
    iprop(own D c q ∗ (own D c q -∗ WP c (k (D.wq c) (D.wo c)) Q))
      ⊢ WP c (.op (.load mQ (Rect.unit (s := S768x512) ![0, 0] S768x512.size inb_S768x512_S768x512_0_0).toLoadRect (View.loadsAt_vmem h_S768x512)) fun wq =>
        .op (.load mO (Rect.unit (s := S512x768) ![0, 0] S512x768.size inb_S512x768_S512x768_0_0).toLoadRect (View.loadsAt_vmem h_S512x768)) fun wo =>
        k (shapeCast S768x512 wq shapeCasts_S768x512_S768x512) (shapeCast S512x768 wo shapeCasts_S512x768_S512x768)) Q := by
  unfold own owns
  iintro ⟨⟨⟨%f, %hf, HQ⟩, ⟨%g, %hg, HO⟩⟩, Hk⟩
  iapply (wp_load_rect 𝒱₀ (c : Thread nD τ) none Set.univ (m := mQ)
    (r := Rect.unit (s := S768x512) ![0, 0] S768x512.size inb_S768x512_S768x512_0_0) (View.set_slice_subset _ _)) $$ HQ
  iintro HQ
  iapply (wp_load_rect 𝒱₀ (c : Thread nD τ) none Set.univ (m := mO)
    (r := Rect.unit (s := S512x768) ![0, 0] S512x768.size inb_S512x768_S512x768_0_0) (View.set_slice_subset _ _)) $$ HO
  iintro HO
  rw [full_eq mQ inb_S768x512_S768x512_0_0 _ f hf, full_eq mO inb_S512x768_S512x768_0_0 _ g hg]
  iapply Hk
  isplitl [HQ]
  · iexists f; isplitr; · ipureintro; exact hf
    iexact HQ
  iexists g; isplitr; · ipureintro; exact hg
  iexact HO

/-! ## The result -/

/-- A device's result: batch `b`'s rows from `a b`. -/
def outV (a0 a1 : FVec F S512x768 .f32) : S2x512x768.Idx → Elt F .f32 := fun j => (if (j 0).val = 0 then a0 else a1) (ix2 (j 1) (j 2))

theorem at_rX (b : Fin 2) (j : S1x512x768.Idx) : (rX b).emb j = ix3 b (j 1) (j 2) := by
  have h0 : j 0 = (0 : Fin 1) := Subsingleton.elim (α := Fin 1) _ _
  funext a
  fin_cases a
  · exact Fin.ext (show b.val + 1 * (j 0).val = b.val by rw [h0]; rfl)
  · exact Fin.ext (show 0 + 1 * (j 1).val = (j 1).val by omega)
  · exact Fin.ext (show 0 + 1 * (j 2).val = (j 2).val by omega)

theorem stored_eq (a : FVec F S512x768 .f32) (y : Fin 512) (z : Fin 768) :
    shapeCast S1x512x768 a shapeCasts_S512x768_S1x512x768 (ix3 (0 : Fin 1) y z) = a (ix2 y z) := by
  refine congrArg a (Shape.reshapeEquiv_eq_of_rowMajor _ ?_)
  rw [Shape.rowMajor_val_two, Shape.rowMajor_val_three]
  show y.val * 768 + z.val = (0 * 512 + y.val) * 768 + z.val
  omega

theorem out_eq (f : mOut.view.ty.Contents (Elt F)) (a0 a1 : FVec F S512x768 .f32) :
    mOut.view.read (Elt F) ((mOut.access (rX 1)).write (Elt F) ((mOut.access (rX 0)).write (Elt F) f
      (shapeCast S1x512x768 a0 shapeCasts_S512x768_S1x512x768) Finset.univ) (shapeCast S1x512x768 a1 shapeCasts_S512x768_S1x512x768) Finset.univ)
      = outV a0 a1 := by
  funext j
  obtain ⟨b, y, z, rfl⟩ : ∃ (b : Fin 2) (y : Fin 512) (z : Fin 768), j = ix3 b y z := ⟨j 0, j 1, j 2, by funext a; fin_cases a <;> rfl⟩
  have e (b : Fin 2) : (ix3 b y z : S2x512x768.Idx) = (rX b).emb (ix3 (0 : Fin 1) y z) := (at_rX b (ix3 (0 : Fin 1) y z)).symm
  have r1 (g : mOut.view.ty.Contents (Elt F)) (w : Vec F S1x512x768 .f32) (b : Fin 2) :
      mOut.view.read (Elt F) ((mOut.access (rX b)).write (Elt F) g w Finset.univ) (ix3 b y z) = w (ix3 (0 : Fin 1) y z) := by
    rw [e b]
    exact congrFun (View.read_write_univ (v := mOut.access (rX b)) g w) _
  have hb : b = 0 ∨ b = 1 := by revert b; decide
  obtain rfl | rfl := hb
  · have hn : mOut.view.emb (ix3 (0 : Fin 2) y z) ∉ (mOut.access (rX 1)).setOn Finset.univ := by
      intro h
      obtain ⟨j', -, hj⟩ := Finset.mem_map.mp h
      have := mOut.view.emb.injective hj
      rw [at_rX] at this
      have h0 := congrFun this 0
      exact absurd h0 (show ¬((1 : Fin 2) = 0) by decide)
    have := View.write_of_not_mem (v := mOut.access (rX 1)) ((mOut.access (rX 0)).write (Elt F) f
      (shapeCast S1x512x768 a0 shapeCasts_S512x768_S1x512x768) Finset.univ) (shapeCast S1x512x768 a1 shapeCasts_S512x768_S1x512x768) Finset.univ hn
    refine Eq.trans ?_ ((r1 f _ 0).trans (stored_eq a0 y z))
    exact View.read_congr_at (v := mOut.view) _ this
  · exact (r1 _ _ 1).trans (stored_eq a1 y z)

/-- The two stores. -/
theorem wp_store2 (c : Dev nD) (a0 a1 : FVec F S512x768 .f32) (k : P F) (Q : PUnit → sProp 𝕄) :
    iprop((∃ w, owns (c : Thread nD τ) mOut fullShare w) ∗ (owns (c : Thread nD τ) mOut fullShare (outV a0 a1) -∗ WP c k Q))
      ⊢ WP c (storeP 0 a0 <| storeP 1 a1 k) Q := by
  unfold storeP owns
  iintro ⟨⟨%w, %f, -, H⟩, Hk⟩
  iapply (wp_load_rect 𝒱₀ (c : Thread nD τ) none Set.univ (m := mOut) (r := rX 0) (View.set_slice_subset _ _)) $$ H
  iintro H
  iapply (wp_store 𝒱₀ (c : Thread nD τ) none Set.univ (m := mOut) (r := rX 0) (View.set_slice_subset mOut.view (rX 0))) $$ H
  iintro H
  iapply (wp_load_rect 𝒱₀ (c : Thread nD τ) none Set.univ (m := mOut) (r := rX 1) (View.set_slice_subset _ _)) $$ H
  iintro H
  iapply (wp_store 𝒱₀ (c : Thread nD τ) none Set.univ (m := mOut) (r := rX 1) (View.set_slice_subset mOut.view (rX 1))) $$ H
  iintro H
  iapply Hk
  iexists _; isplitr; · ipureintro; exact out_eq f a0 a1
  iexact H

end Cert.KernelIdeal.Ring

end
-- ==== Proof.Run.lean ====
module

public import proofs.«01_k».proof.Proof.Compute

/-! # One device's run

The steps, each by one rule over what it passes on and what it fetches next, and the whole program from what
the device is given at the launch to what it gives back. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (D : Data F)

/-- The records every device shares. -/
def ctx (κ : GSem nD τ sig → ℕ) : sProp 𝕄 := iprop(recs D κ ∗ levAts L lv)
instance ctx_persistent (κ : GSem nD τ sig → ℕ) : BI.Persistent (ctx D κ) := by unfold ctx; infer_instance

/-- For send `i`: what pays for it and its position. -/
def sendIn (c : Dev nD) (i : Fin 7) : sProp 𝕄 := iprop(sndTok c i ∗ pos2 c (sa i) (sb i) (c + so i) 0)
def sentOut (c : Dev nD) (i : Fin 7) : sProp 𝕄 := pos2 c (sa i) (sb i) (c + so i) 1
/-- For step `i + 1`: its position and credit. -/
def recvIn (c : Dev nD) (i : Fin 7) : sProp 𝕄 := iprop(pos2 c 2 5 (c + off i.succ) 0 ∗ cred2 c 2 5 (c + off i.succ))
/-- ... and after it: the position, the weights' slot. -/
def recvOut (c : Dev nD) (i : Fin 7) : sProp 𝕄 := pos2 c 2 5 (c + off i.succ) 1

/-! ## Shares lent -/

theorem halves_slot (c r : Dev nD) (q : PosShare TreeShare) : slot D c r q ⊢ iprop(slot D c r q.left ∗ slot D c r q.right) := by
  unfold slot
  iintro ⟨HQ, HO⟩
  ihave HQ := (owns_halves (c : Thread nD τ) (sQ r) q (D.wq r)).mp $$ HQ
  ihave HO := (owns_halves (c : Thread nD τ) (sO r) q (D.wo r)).mp $$ HO
  icases HQ with ⟨HQl, HQr⟩
  icases HO with ⟨HOl, HOr⟩
  isplitl [HQl HOl]
  · isplitl [HQl]; · iexact HQl
    iexact HOl
  isplitl [HQr]; · iexact HQr
  iexact HOr
theorem join_slot (c r : Dev nD) (q : PosShare TreeShare) : iprop(slot D c r q.left ∗ slot D c r q.right) ⊢ slot D c r q := by
  unfold slot
  iintro ⟨⟨HQl, HOl⟩, HQr, HOr⟩
  isplitl [HQl HQr]
  · iapply (owns_halves (c : Thread nD τ) (sQ r) q (D.wq r)).mpr
    isplitl [HQl]; · iexact HQl
    iexact HQr
  iapply (owns_halves (c : Thread nD τ) (sO r) q (D.wo r)).mpr
  isplitl [HOl]; · iexact HOl
  iexact HOr
theorem halves_own (c : Dev nD) (q : PosShare TreeShare) : own D c q ⊢ iprop(own D c q.left ∗ own D c q.right) := by
  unfold own
  iintro ⟨HQ, HO⟩
  ihave HQ := (owns_halves (c : Thread nD τ) mQ q (D.wq c)).mp $$ HQ
  ihave HO := (owns_halves (c : Thread nD τ) mO q (D.wo c)).mp $$ HO
  icases HQ with ⟨HQl, HQr⟩
  icases HO with ⟨HOl, HOr⟩
  isplitl [HQl HOl]
  · isplitl [HQl]; · iexact HQl
    iexact HOl
  isplitl [HQr]; · iexact HQr
  iexact HOr
theorem join_own (c : Dev nD) (q : PosShare TreeShare) : iprop(own D c q.left ∗ own D c q.right) ⊢ own D c q := by
  unfold own
  iintro ⟨⟨HQl, HOl⟩, HQr, HOr⟩
  isplitl [HQl HQr]
  · iapply (owns_halves (c : Thread nD τ) mQ q (D.wq c)).mpr
    isplitl [HQl]; · iexact HQl
    iexact HQr
  iapply (owns_halves (c : Thread nD τ) mO q (D.wo c)).mpr
  isplitl [HOl]; · iexact HOl
  iexact HOr

theorem sa_cases : ∀ i, (sa i = 0 ∧ sb i = 3) ∨ (sa i = 1 ∧ sb i = 4) := by decide

/-- A send of a slot is lent the slot's left half. -/
theorem pay_pass (c : Dev nD) (i : Fin 7) (h : so i ≠ 0) :
    ringPay D c (sa i) (c + so i) = owns (c : Thread nD τ) (sQ (c + so i)) fullShare.left (D.wq (c + so i))
      ∧ ringPay D c (sb i) (c + so i) = owns (c : Thread nD τ) (sO (c + so i)) fullShare.left (D.wo (c + so i)) := by
  have hn : ¬(c + so i = c) := fun e => h (by revert e; generalize so i = o; revert c o; decide)
  have hc := sa_cases i
  rcases hc with ⟨ha, hb⟩ | ⟨ha, hb⟩ <;> (rw [ha, hb]; exact ⟨if_neg hn, if_neg hn⟩)

/-- A send of the own blocks is lent a third of them. -/
theorem pay_own (c : Dev nD) (i : Fin 7) (h : so i = 0) :
    ringPay D c (sa i) (c + so i) = owns (c : Thread nD τ) mQ (third (sa i = 1)) (D.wq c)
      ∧ ringPay D c (sb i) (c + so i) = owns (c : Thread nD τ) mO (third (sa i = 1)) (D.wo c) := by
  have hn : c + so i = c := by rw [h]; exact add_zero c
  have hc := sa_cases i
  rcases hc with ⟨ha, hb⟩ | ⟨ha, hb⟩ <;> (rw [ha, hb]; exact ⟨if_pos hn, if_pos hn⟩)

/-! ## Sends -/

/-- The send of the slot a step waited for, at the chunk's and the neighbour's names in the program. -/
theorem wp_pass (κ : GSem nD τ sig → ℕ) (c : Dev nD) (i : Fin 7) (h : so i ≠ 0) (a b : Fin 6) (ha : a = sa i) (hb : b = sb i) (n r : Dev nD)
    (hn : n = c + dd i) (hr : r = c + so i) (l : List (Fin 7)) (k : P F) (Q : PUnit → sProp 𝕄) :
    iprop((ctx D κ ∗ slot D c r fullShare ∗ (hand (F := F) c i ∗ sndTok c i) ∗ owesE c (Owed c (i :: l)))
        ∗ ((slot D c r fullShare.right ∗ cred2 c (sa i) (sb i) (c + so i) ∗ owesE c (Owed c l)) -∗ WP c k Q))
      ⊢ WP c (passC a b n r k) Q := by
  subst ha hb hn hr
  unfold ctx
  iintro ⟨⟨⟨#HR, -⟩, Hs, ⟨Hh, Ht⟩, HO⟩, Hk⟩
  ihave Hs := (halves_slot D c (c + so i) fullShare) $$ Hs
  icases Hs with ⟨Hl, Hr⟩
  iapply (wp_sendI D κ c i (sQ (c + so i)) _ (sO (c + so i)) _ fullShare.left
    (Entails.of_eq (pay_pass D c i h).1.symm) (Entails.of_eq (pay_pass D c i h).2.symm) l k Q)
  isplitl [Hl Hh Ht HO]
  · isplitr; · iexact HR
    isplitl [Hl]; · unfold slot; iexact Hl
    isplitl [Hh]; · iexact Hh
    isplitl [Ht]; · iexact Ht
    iexact HO
  iintro ⟨Hc, HO⟩
  iapply Hk
  isplitl [Hr]; · iexact Hr
  isplitl [Hc]; · iexact Hc
  iexact HO

theorem wp_own (κ : GSem nD τ sig → ℕ) (c : Dev nD) (i : Fin 7) (h : so i = 0) (a b : Fin 6) (ha : a = sa i) (hb : b = sb i) (n r : Dev nD)
    (hn : n = c + dd i) (hr : r = c + so i) (q : PosShare TreeShare) (hq : q = third (sa i = 1)) (l : List (Fin 7)) (k : P F) (Q : PUnit → sProp 𝕄) :
    iprop((ctx D κ ∗ own D c q ∗ (hand (F := F) c i ∗ sndTok c i) ∗ owesE c (Owed c (i :: l)))
        ∗ ((cred2 c (sa i) (sb i) (c + so i) ∗ owesE c (Owed c l)) -∗ WP c k Q))
      ⊢ WP c (ownC a b n r k) Q := by
  subst ha hb hn hr hq
  have hc : c + so i = c := by rw [h]; exact add_zero c
  unfold ctx
  iintro ⟨⟨⟨#HR, -⟩, Hs, ⟨Hh, Ht⟩, HO⟩, Hk⟩
  iapply (wp_sendI D κ c i mQ _ mO _ (third (sa i = 1))
    (by rw [(pay_own D c i h).1, hc]) (by rw [(pay_own D c i h).2, hc]) l k Q)
  isplitl [Hs Hh Ht HO]
  · isplitr; · iexact HR
    isplitl [Hs]
    · rw [hc]; unfold own; iexact Hs
    isplitl [Hh]; · iexact Hh
    isplitl [Ht]; · iexact Ht
    iexact HO
  iexact Hk

theorem wp_sentPass (κ : GSem nD τ sig → ℕ) (c : Dev nD) (i : Fin 7) (h : so i ≠ 0) (a b : Fin 6) (ha : a = sa i) (hb : b = sb i) (r : Dev nD)
    (hr : r = c + so i) (k : P F) (Q : PUnit → sProp 𝕄) :
    iprop((ctx D κ ∗ pos2 c (sa i) (sb i) (c + so i) 0 ∗ cred2 c (sa i) (sb i) (c + so i) ∗ slot D c r fullShare.right ∗ owesE c (Owed c []))
        ∗ ((sentOut c i ∗ slot D c r fullShare ∗ owesE c (Owed c [])) -∗ WP c k Q))
      ⊢ WP c (waitC a b r k) Q := by
  subst ha hb hr
  unfold ctx
  iintro ⟨⟨⟨#HR, #HL⟩, Hp, Hc, Hr, HO⟩, Hk⟩
  iapply (wp_sent D κ c i k Q)
  isplitl [Hp Hc HO]
  · isplitr; · iexact HR
    isplitr; · iexact HL
    isplitl [Hp]; · iexact Hp
    isplitl [Hc]; · iexact Hc
    iexact HO
  rw [(pay_pass D c i h).1, (pay_pass D c i h).2]
  iintro ⟨Hp, HO, HlQ, HlO⟩
  iapply Hk
  isplitl [Hp]; · unfold sentOut; iexact Hp
  isplitl [Hr HlQ HlO]
  · iapply (join_slot D c (c + so i) fullShare)
    isplitl [HlQ HlO]
    · unfold slot
      isplitl [HlQ]; · iexact HlQ
      iexact HlO
    iexact Hr
  iexact HO

theorem wp_sentOwn (κ : GSem nD τ sig → ℕ) (c : Dev nD) (i : Fin 7) (h : so i = 0) (a b : Fin 6) (ha : a = sa i) (hb : b = sb i) (r : Dev nD)
    (hr : r = c + so i) (q : PosShare TreeShare) (hq : q = third (sa i = 1)) (k : P F) (Q : PUnit → sProp 𝕄) :
    iprop((ctx D κ ∗ pos2 c (sa i) (sb i) (c + so i) 0 ∗ cred2 c (sa i) (sb i) (c + so i) ∗ owesE c (Owed c []))
        ∗ ((sentOut c i ∗ own D c q ∗ owesE c (Owed c [])) -∗ WP c k Q))
      ⊢ WP c (waitC a b r k) Q := by
  subst ha hb hr hq
  unfold ctx
  iintro ⟨⟨⟨#HR, #HL⟩, Hp, Hc, HO⟩, Hk⟩
  iapply (wp_sent D κ c i k Q)
  isplitl [Hp Hc HO]
  · isplitr; · iexact HR
    isplitr; · iexact HL
    isplitl [Hp]; · iexact Hp
    isplitl [Hc]; · iexact Hc
    iexact HO
  rw [(pay_own D c i h).1, (pay_own D c i h).2]
  iintro ⟨Hp, HO, HlQ, HlO⟩
  iapply Hk
  isplitl [Hp]; · unfold sentOut; iexact Hp
  isplitl [HlQ HlO]
  · unfold own
    isplitl [HlQ]; · iexact HlQ
    iexact HlO
  iexact HO

/-! ## Fetches -/

/-- What fetch `j` takes: the right to signal, and the source. -/
def fetchIn (c : Dev nD) (s : Fin 2) (ρ : ℕ) (j : Fin 8) : sProp 𝕄 := iprop(kvTok c s ρ ∗ srcAt D c j)
/-- A fetch under way. -/
def flying (c : Dev nD) (s : Fin 2) (ρ : ℕ) : sProp 𝕄 := iprop(kvPos c s ρ ∗ kvCred c s)
/-- A buffer between fetches. -/
def idle (c : Dev nD) (s : Fin 2) (ρ : ℕ) : sProp 𝕄 := iprop(kvPos c s ρ ∗ bufAny c s)

theorem wp_next (κ : GSem nD τ sig → ℕ) (c r : Dev nD) (s : Fin 2) (ρ : ℕ) (j : Fin 8) (hρ : ρ < 4) (hj : j = fj s ρ) (hr : r = c + off j) (k : P F)
    (Q : PUnit → sProp 𝕄) :
    iprop((ctx D κ ∗ idle c s ρ ∗ fetchIn D c s ρ j) ∗ (flying c s ρ -∗ WP c k Q)) ⊢ WP c (fetchC r s k) Q := by
  subst hj
  unfold ctx idle fetchIn flying
  iintro ⟨⟨⟨#HR, -⟩, ⟨Hp, Hb⟩, Ht, Hs⟩, Hk⟩
  iapply (wp_fetch D κ c r s ρ hρ hr k Q)
  isplitr [Hk]
  · isplitr; · iexact HR
    isplitl [Hp]; · iexact Hp
    isplitl [Ht]; · iexact Ht
    isplitl [Hb]; · iexact Hb
    iexact Hs
  iexact Hk

/-! ## A step -/

theorem wp_sum (κ : GSem nD τ sig → ℕ) (c r : Dev nD) (s : Fin 2) (ρ : ℕ) (j : Fin 8) (hρ : ρ < 4) (hj : j = fj s ρ) (hr : r = c + off j)
    (l : List (Fin 7)) (next : P F → P F) (B B' : sProp 𝕄)
    (hnext : ∀ (k : P F) (Q : PUnit → sProp 𝕄), iprop((ctx D κ ∗ B) ∗ (B' -∗ WP c k Q)) ⊢ WP c (next k) Q)
    (k : FVec F S512x768 .f32 → FVec F S512x768 .f32 → P F) (Q : PUnit → sProp 𝕄) :
    iprop((ctx D κ ∗ owesE c (Owed c l) ∗ flying c s ρ ∗ owns (c : Thread nD τ) mX fullShare (D.x c) ∗ B)
        ∗ ((owesE c (Owed c l) ∗ idle c s (ρ + 1) ∗ srcAt D c j ∗ owns (c : Thread nD τ) mX fullShare (D.x c) ∗ B')
          -∗ WP c (k (cont D c 0 j) (cont D c 1 j)) Q))
      ⊢ WP c (fetchedC r s <| next <| computeP s (bias c) (D.wq r) (D.wo r) k) Q := by
  subst hj hr
  unfold flying
  iintro ⟨⟨#HC, HO, ⟨Hp, Hc⟩, HX, HB⟩, Hk⟩
  unfold ctx
  icases HC with ⟨#HR, #HL⟩
  iapply (wp_fetched D κ c (c + off (fj s ρ)) s ρ hρ l _ Q)
  isplitl [HO Hp Hc]
  · isplitr; · iexact HR
    isplitr; · iexact HL
    isplitl [Hp]; · iexact Hp
    isplitl [Hc]; · iexact Hc
    iexact HO
  iintro ⟨Hp, HO, Hb, Hs⟩
  iapply (hnext _ Q)
  isplitl [HB]
  · isplitr
    · unfold ctx; isplitr; · iexact HR
      iexact HL
    iexact HB
  iintro HB
  iapply (wp_compute D c s (fj s ρ) fullShare k Q)
  isplitl [HX Hb]
  · isplitl [HX]; · iexact HX
    iexact Hb
  iintro ⟨HX, Hb⟩
  iapply Hk
  isplitl [HO]; · iexact HO
  isplitl [Hp Hb]
  · unfold idle
    isplitl [Hp]; · iexact Hp
    iapply (bufAt_any D c s (fj s ρ)); iexact Hb
  isplitl [Hs]; · iexact Hs
  isplitl [HX]; · iexact HX
  iexact HB

theorem wp_step (κ : GSem nD τ sig → ℕ) (c r : Dev nD) (i : Fin 7) (s : Fin 2) (ρ : ℕ) (j : Fin 8) (hρ : ρ < 4) (hj : j = fj s ρ) (hji : j = i.succ)
    (hr : r = c + off j) (l l' : List (Fin 7)) (hl : ∀ i' ∈ l, i < i') (q : PosShare TreeShare) (pass next : P F → P F) (A A' B B' : sProp 𝕄)
    (hpass : ∀ (k : P F) (Q : PUnit → sProp 𝕄),
      iprop((ctx D κ ∗ slot D c r fullShare ∗ A ∗ owesE c (Owed c l)) ∗ ((slot D c r q ∗ A' ∗ owesE c (Owed c l')) -∗ WP c k Q)) ⊢ WP c (pass k) Q)
    (hnext : ∀ (k : P F) (Q : PUnit → sProp 𝕄), iprop((ctx D κ ∗ B) ∗ (B' -∗ WP c k Q)) ⊢ WP c (next k) Q)
    (a0 a1 : FVec F S512x768 .f32) (k : FVec F S512x768 .f32 → FVec F S512x768 .f32 → P F) (Q : PUnit → sProp 𝕄) :
    iprop((ctx D κ ∗ recvIn c i ∗ owesE c (Owed c l) ∗ flying c s ρ ∗ owns (c : Thread nD τ) mX fullShare (D.x c) ∗ A ∗ B)
        ∗ ((recvOut c i ∗ slot D c r q ∗ A' ∗ owesE c (Owed c l') ∗ idle c s (ρ + 1) ∗ srcAt D c j ∗ owns (c : Thread nD τ) mX fullShare (D.x c) ∗ B')
          -∗ WP c (k (addf a0 (cont D c 0 j)) (addf a1 (cont D c 1 j))) Q))
      ⊢ WP c (stepC c r s pass next a0 a1 k) Q := by
  subst hji hr
  unfold stepC recvIn
  iintro ⟨⟨#HC, ⟨Hp, Hc⟩, HO, Hf, HX, HA, HB⟩, Hk⟩
  ihave HC' := (show ctx D κ ⊢ iprop(recs D κ ∗ levAts L lv) from .rfl) $$ HC
  icases HC' with ⟨#HR, #HL⟩
  iapply (wp_recv D κ c i l hl _ Q)
  isplitl [HO Hp Hc]
  · isplitr; · iexact HR
    isplitr; · iexact HL
    isplitl [Hp]; · iexact Hp
    isplitl [Hc]; · iexact Hc
    iexact HO
  iintro ⟨Hp, HO, Hs⟩
  iapply (hpass _ Q)
  isplitl [Hs HA HO]
  · isplitr; · iexact HC
    isplitl [Hs]; · iexact Hs
    isplitl [HA]; · iexact HA
    iexact HO
  iintro ⟨Hs, HA, HO⟩
  iapply (wp_read D c (c + off i.succ) q _ Q)
  isplitl [Hs]; · iexact Hs
  iintro Hs
  unfold sumC
  iapply (wp_sum D κ c (c + off i.succ) s ρ i.succ hρ hj rfl l' next B B' hnext _ Q)
  isplitl [HO Hf HX HB]
  · isplitr; · iexact HC
    isplitl [HO]; · iexact HO
    isplitl [Hf]; · iexact Hf
    isplitl [HX]; · iexact HX
    iexact HB
  iintro ⟨HO, Hi, Hsrc, HX, HB⟩
  iapply Hk
  isplitl [Hp]; · unfold recvOut; iexact Hp
  isplitl [Hs]; · iexact Hs
  isplitl [HA]; · iexact HA
  isplitl [HO]; · iexact HO
  isplitl [Hi]; · iexact Hi
  isplitl [Hsrc]; · iexact Hsrc
  isplitl [HX]; · iexact HX
  iexact HB

/-- Nothing passed on; nothing fetched. -/
theorem wp_noPass (κ : GSem nD τ sig → ℕ) (c r : Dev nD) (l : List (Fin 7)) (k : P F) (Q : PUnit → sProp 𝕄) :
    iprop((ctx D κ ∗ slot D c r fullShare ∗ emp ∗ owesE c (Owed c l)) ∗ ((slot D c r fullShare ∗ emp ∗ owesE c (Owed c l)) -∗ WP c k Q)) ⊢ WP c k Q := by
  iintro ⟨⟨-, H⟩, Hk⟩
  iapply Hk
  iexact H
theorem wp_noNext (κ : GSem nD τ sig → ℕ) (c : Dev nD) (k : P F) (Q : PUnit → sProp 𝕄) :
    iprop((ctx D κ ∗ emp) ∗ ((emp : sProp 𝕄) -∗ WP c k Q)) ⊢ WP c k Q := by
  iintro ⟨⟨-, H⟩, Hk⟩
  iapply Hk
  iexact H

end Cert.KernelIdeal.Ring

end
-- ==== Proof.Body.lean ====
module

public import proofs.«01_k».proof.Proof.Run

/-! # The whole program of a device -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (D : Data F)

/-- The seven, and the eight, of a family. -/
def all7 (Φ : Fin 7 → sProp 𝕄) : sProp 𝕄 := iprop(Φ 0 ∗ Φ 1 ∗ Φ 2 ∗ Φ 3 ∗ Φ 4 ∗ Φ 5 ∗ Φ 6)
def all8 (Φ : Fin 8 → sProp 𝕄) : sProp 𝕄 := iprop(Φ 0 ∗ Φ 1 ∗ Φ 2 ∗ Φ 3 ∗ Φ 4 ∗ Φ 5 ∗ Φ 6 ∗ Φ 7)

/-- The buffer and the round of fetch `j`. -/
def bufJ (j : Fin 8) : Fin 2 := ⟨j.val % 2, Nat.mod_lt _ (by decide)⟩
def rndJ (j : Fin 8) : ℕ := j.val / 2

/-- The sum of the contributions of steps 0 to `n` to batch `b`. -/
def acc (c : Dev nD) (b : Fin 2) : ℕ → FVec F S512x768 .f32
  | 0 => cont D c b 0
  | n + 1 => addf (acc c b n) (cont D c b ⟨(n + 1) % 8, Nat.mod_lt _ (by decide)⟩)

/-- The steps, over the device's own weights once loaded. -/
def stepsOf (d : Dev nD) (wq : FVec F S768x512 .bf16) (wo : FVec F S512x768 .bf16) : P F :=
  fetchedC (d + off 0) 0 <| fetchC (d + off 1) 1 <|
  computeP 0 (bias d) wq wo fun a0 a1 =>
  stepC d (d + off 1) 1 (passC 0 3 (nxt d) (d + off 1)) (fetchC (d + off 2) 0) a0 a1 fun a0 a1 =>
  stepC d (d + off 2) 0 (passC 1 4 (prv d) (d + off 2)) (fetchC (d + off 3) 1) a0 a1 fun a0 a1 =>
  stepC d (d + off 3) 1 (passC 0 3 (nxt d) (d + off 3)) (fetchC (d + off 4) 0) a0 a1 fun a0 a1 =>
  stepC d (d + off 4) 0 (passC 1 4 (prv d) (d + off 4)) (fetchC (d + off 5) 1) a0 a1 fun a0 a1 =>
  stepC d (d + off 5) 1 (fun k => k) (fetchC (d + off 6) 0) a0 a1 fun a0 a1 =>
  stepC d (d + off 6) 0 (passC 1 4 (prv d) (d + off 6)) (fetchC (d + off 7) 1) a0 a1 fun a0 a1 =>
  stepC d (d + off 7) 1 (fun k => k) (fun k => k) a0 a1 fun a0 a1 =>
  lastC d a0 a1

/-- What the two signals pay with. -/
def sigs (c : Dev nD) : sProp 𝕄 :=
  iprop((dutyTok ER (gB (prv c)) 0 false ∗ barPay (F := F) (prv c) false ∗ reached ER (gB (prv c)) 0)
    ∗ (dutyTok ER (gB (nxt c)) 0 true ∗ barPay (F := F) (nxt c) true ∗ reached ER (gB (nxt c)) 0))

/-- All a device owes at the launch. -/
def owed0 (c : Dev nD) : CellTallies nD τ sig Unit :=
  Owed c [0, 1, 2, 3, 4, 5, 6] + tallyAt (gB (nxt c)) () 1 + tallyAt (gB (prv c)) () 1

/-- What a device starts from. -/
def runPre (c : Dev nD) : sProp 𝕄 :=
  iprop((idle c 0 0 ∗ idle c 1 0 ∗ all8 fun j => fetchIn D c (bufJ j) (rndJ j) j)
    ∗ (atPos ER (gB c) 0 ∅ 0 ∗ cred (tallyAt (gB c) () 2) ∗ sigs c)
    ∗ all7 (sendIn c) ∗ all7 (recvIn c)
    ∗ (owns (c : Thread nD τ) mX fullShare (D.x c) ∗ own D c fullShare ∗ ∃ w, owns (c : Thread nD τ) mOut fullShare w)
    ∗ owesE c (owed0 c))

/-- What it ends with. -/
def runPost (c : Dev nD) : sProp 𝕄 :=
  iprop((idle c 0 4 ∗ idle c 1 4 ∗ all8 (srcAt D c))
    ∗ atPos ER (gB c) 1 ∅ 0
    ∗ all7 (sentOut c) ∗ all7 (fun i => iprop(recvOut c i ∗ slot D c (c + off i.succ) fullShare))
    ∗ (owns (c : Thread nD τ) mX fullShare (D.x c) ∗ own D c fullShare ∗ owns (c : Thread nD τ) mOut fullShare (outV (acc D c 0 7) (acc D c 1 7)))
    ∗ owesE c (Owed c []))

set_option maxHeartbeats 2000000 in
theorem wp_body (κ : GSem nD τ sig → ℕ) (c : Dev nD) (Q : PUnit → sProp 𝕄) :
    iprop((ctx D κ ∗ runPre D c) ∗ (runPost D c -∗ WP c (.ret ⟨⟩) Q)) ⊢ WP c (bodyC c) Q := by
  unfold runPre sigs all7 all8 bodyC owed0
  iintro ⟨⟨#HC, ⟨Hi0, Hi1, F0, F1, F2, F3, F4, F5, F6, F7⟩, ⟨Hb, Hbc, Hs1, Hs2⟩, ⟨S0, S1, S2, S3, S4, S5, S6⟩,
    ⟨R0, R1, R2, R3, R4, R5, R6⟩, ⟨HX, HW, HOut⟩, HO⟩, Hk⟩
  iapply (wp_next D κ c (c + off 0) 0 0 0 (by decide) rfl rfl _ Q)
  isplitl [Hi0 F0]
  · isplitr; · iexact HC
    isplitl [Hi0]; · iexact Hi0
    iexact F0
  iintro Hf0
  ihave HC' := (show ctx D κ ⊢ iprop(recs D κ ∗ levAts L lv) from .rfl) $$ HC
  icases HC' with ⟨#HR, #HL⟩
  iapply (wp_bar D κ c [0, 1, 2, 3, 4, 5, 6] (by decide) _ Q)
  isplitl [Hb Hbc Hs1 Hs2 HO]
  · isplitr; · iexact HR
    isplitr; · iexact HL
    isplitl [Hb]; · iexact Hb
    isplitl [Hbc]; · iexact Hbc
    isplitl [Hs1]; · iexact Hs1
    isplitl [Hs2]; · iexact Hs2
    iexact HO
  unfold barPay sendIn
  iintro ⟨Hb, HO, ⟨H0, H2, H4⟩, H1, H3, H5, H6⟩
  icases S0 with ⟨T0, P0⟩
  icases S1 with ⟨T1, P1⟩
  icases S2 with ⟨T2, P2⟩
  icases S3 with ⟨T3, P3⟩
  icases S4 with ⟨T4, P4⟩
  icases S5 with ⟨T5, P5⟩
  icases S6 with ⟨T6, P6⟩
  ihave HW := (halves_own D c fullShare) $$ HW
  icases HW with ⟨HWl, HWr⟩
  ihave HWr := (halves_own D c fullShare.right) $$ HWr
  icases HWr with ⟨HWm, HWr⟩
  iapply (wp_own D κ c 0 rfl 0 3 rfl rfl (nxt c) (c + off 0) rfl rfl fullShare.left rfl [1, 2, 3, 4, 5, 6] _ Q)
  isplitl [HWl H0 T0 HO]
  · isplitr; · iexact HC
    isplitl [HWl]; · iexact HWl
    isplitr [HO]
    · isplitl [H0]; · iexact H0
      iexact T0
    iexact HO
  iintro ⟨C0, HO⟩
  iapply (wp_own D κ c 1 rfl 1 4 rfl rfl (prv c) (c + off 0) rfl rfl fullShare.right.left rfl [2, 3, 4, 5, 6] _ Q)
  isplitl [HWm H1 T1 HO]
  · isplitr; · iexact HC
    isplitl [HWm]; · iexact HWm
    isplitr [HO]
    · isplitl [H1]; · iexact H1
      iexact T1
    iexact HO
  iintro ⟨C1, HO⟩
  unfold stepsC
  iapply (wp_readOwn D c fullShare.right.right (stepsOf c) Q)
  isplitl [HWr]; · iexact HWr
  iintro HWr
  unfold stepsOf
  rw [show D.wq c = D.wq (c + off 0) from congrArg D.wq (add_zero c).symm, show D.wo c = D.wo (c + off 0) from congrArg D.wo (add_zero c).symm]
  iapply (wp_sum D κ c (c + off 0) 0 0 0 (by decide) rfl rfl [2, 3, 4, 5, 6] (fetchC (c + off 1) 1) _ _
    (wp_next D κ c (c + off 1) 1 0 1 (by decide) rfl rfl) _ Q)
  isplitl [HO Hf0 HX Hi1 F1]
  · isplitr; · iexact HC
    isplitl [HO]; · iexact HO
    isplitl [Hf0]; · iexact Hf0
    isplitl [HX]; · iexact HX
    isplitl [Hi1]; · iexact Hi1
    iexact F1
  iintro ⟨HO, Hi0, G0, HX, Hf1⟩
  iapply (wp_step D κ c (c + off 1) 0 1 0 1 (by decide) rfl rfl rfl [2, 3, 4, 5, 6] [3, 4, 5, 6] (by decide) fullShare.right
    (passC 0 3 (nxt c) (c + off 1)) (fetchC (c + off 2) 0) _ _ _ _
    (wp_pass D κ c 2 (by decide) 0 3 rfl rfl (nxt c) (c + off 1) rfl rfl [3, 4, 5, 6])
    (wp_next D κ c (c + off 2) 0 1 2 (by decide) rfl rfl) _ _ _ Q)
  isplitl [R0 HO Hf1 HX H2 T2 Hi0 F2]
  · isplitr; · iexact HC
    isplitl [R0]; · iexact R0
    isplitl [HO]; · iexact HO
    isplitl [Hf1]; · iexact Hf1
    isplitl [HX]; · iexact HX
    isplitl [H2 T2]
    · isplitl [H2]; · iexact H2
      iexact T2
    isplitl [Hi0]; · iexact Hi0
    iexact F2
  iintro ⟨R0, W0, C2, HO, Hi1, G1, HX, Hf0⟩
  iapply (wp_step D κ c (c + off 2) 1 0 1 2 (by decide) rfl rfl rfl [3, 4, 5, 6] [4, 5, 6] (by decide) fullShare.right
    (passC 1 4 (prv c) (c + off 2)) (fetchC (c + off 3) 1) _ _ _ _
    (wp_pass D κ c 3 (by decide) 1 4 rfl rfl (prv c) (c + off 2) rfl rfl [4, 5, 6])
    (wp_next D κ c (c + off 3) 1 1 3 (by decide) rfl rfl) _ _ _ Q)
  isplitl [R1 HO Hf0 HX H3 T3 Hi1 F3]
  · isplitr; · iexact HC
    isplitl [R1]; · iexact R1
    isplitl [HO]; · iexact HO
    isplitl [Hf0]; · iexact Hf0
    isplitl [HX]; · iexact HX
    isplitl [H3 T3]
    · isplitl [H3]; · iexact H3
      iexact T3
    isplitl [Hi1]; · iexact Hi1
    iexact F3
  iintro ⟨R1, W1, C3, HO, Hi0, G2, HX, Hf1⟩
  iapply (wp_step D κ c (c + off 3) 2 1 1 3 (by decide) rfl rfl rfl [4, 5, 6] [5, 6] (by decide) fullShare.right
    (passC 0 3 (nxt c) (c + off 3)) (fetchC (c + off 4) 0) _ _ _ _
    (wp_pass D κ c 4 (by decide) 0 3 rfl rfl (nxt c) (c + off 3) rfl rfl [5, 6])
    (wp_next D κ c (c + off 4) 0 2 4 (by decide) rfl rfl) _ _ _ Q)
  isplitl [R2 HO Hf1 HX H4 T4 Hi0 F4]
  · isplitr; · iexact HC
    isplitl [R2]; · iexact R2
    isplitl [HO]; · iexact HO
    isplitl [Hf1]; · iexact Hf1
    isplitl [HX]; · iexact HX
    isplitl [H4 T4]
    · isplitl [H4]; · iexact H4
      iexact T4
    isplitl [Hi0]; · iexact Hi0
    iexact F4
  iintro ⟨R2, W2, C4, HO, Hi1, G3, HX, Hf0⟩
  iapply (wp_step D κ c (c + off 4) 3 0 2 4 (by decide) rfl rfl rfl [5, 6] [6] (by decide) fullShare.right
    (passC 1 4 (prv c) (c + off 4)) (fetchC (c + off 5) 1) _ _ _ _
    (wp_pass D κ c 5 (by decide) 1 4 rfl rfl (prv c) (c + off 4) rfl rfl [6])
    (wp_next D κ c (c + off 5) 1 2 5 (by decide) rfl rfl) _ _ _ Q)
  isplitl [R3 HO Hf0 HX H5 T5 Hi1 F5]
  · isplitr; · iexact HC
    isplitl [R3]; · iexact R3
    isplitl [HO]; · iexact HO
    isplitl [Hf0]; · iexact Hf0
    isplitl [HX]; · iexact HX
    isplitl [H5 T5]
    · isplitl [H5]; · iexact H5
      iexact T5
    isplitl [Hi1]; · iexact Hi1
    iexact F5
  iintro ⟨R3, W3, C5, HO, Hi0, G4, HX, Hf1⟩
  iapply (wp_step D κ c (c + off 5) 4 1 2 5 (by decide) rfl rfl rfl [6] [6] (by decide) fullShare
    (fun k => k) (fetchC (c + off 6) 0) _ _ _ _
    (wp_noPass D κ c (c + off 5) [6])
    (wp_next D κ c (c + off 6) 0 3 6 (by decide) rfl rfl) _ _ _ Q)
  isplitl [R4 HO Hf1 HX Hi0 F6]
  · isplitr; · iexact HC
    isplitl [R4]; · iexact R4
    isplitl [HO]; · iexact HO
    isplitl [Hf1]; · iexact Hf1
    isplitl [HX]; · iexact HX
    isplitr; · iempintro
    isplitl [Hi0]; · iexact Hi0
    iexact F6
  iintro ⟨R4, W4, -, HO, Hi1, G5, HX, Hf0⟩
  iapply (wp_step D κ c (c + off 6) 5 0 3 6 (by decide) rfl rfl rfl [6] [] (by decide) fullShare.right
    (passC 1 4 (prv c) (c + off 6)) (fetchC (c + off 7) 1) _ _ _ _
    (wp_pass D κ c 6 (by decide) 1 4 rfl rfl (prv c) (c + off 6) rfl rfl [])
    (wp_next D κ c (c + off 7) 1 3 7 (by decide) rfl rfl) _ _ _ Q)
  isplitl [R5 HO Hf0 HX H6 T6 Hi1 F7]
  · isplitr; · iexact HC
    isplitl [R5]; · iexact R5
    isplitl [HO]; · iexact HO
    isplitl [Hf0]; · iexact Hf0
    isplitl [HX]; · iexact HX
    isplitl [H6 T6]
    · isplitl [H6]; · iexact H6
      iexact T6
    isplitl [Hi1]; · iexact Hi1
    iexact F7
  iintro ⟨R5, W5, C6, HO, Hi0, G6, HX, Hf1⟩
  iapply (wp_step D κ c (c + off 7) 6 1 3 7 (by decide) rfl rfl rfl [] [] (by decide) fullShare
    (fun k => k) (fun k => k) _ _ _ _
    (wp_noPass D κ c (c + off 7) [])
    (wp_noNext D κ c) _ _ _ Q)
  isplitl [R6 HO Hf1 HX]
  · isplitr; · iexact HC
    isplitl [R6]; · iexact R6
    isplitl [HO]; · iexact HO
    isplitl [Hf1]; · iexact Hf1
    isplitl [HX]; · iexact HX
    isplitr; · iempintro
    iempintro
  iintro ⟨R6, W6, -, HO, Hi1, G7, HX, -⟩
  unfold lastC
  iapply (wp_store2 c _ _ _ Q)
  isplitl [HOut]; · iexact HOut
  iintro HOut
  iapply (wp_sentOwn D κ c 0 rfl 0 3 rfl rfl (c + off 0) rfl fullShare.left rfl _ Q)
  isplitl [P0 C0 HO]
  · isplitr; · iexact HC
    isplitl [P0]; · iexact P0
    isplitl [C0]; · iexact C0
    iexact HO
  iintro ⟨P0, HWl, HO⟩
  iapply (wp_sentPass D κ c 2 (by decide) 0 3 rfl rfl (c + off 1) rfl _ Q)
  isplitl [P2 C2 W0 HO]
  · isplitr; · iexact HC
    isplitl [P2]; · iexact P2
    isplitl [C2]; · iexact C2
    isplitl [W0]; · iexact W0
    iexact HO
  iintro ⟨P2, W0, HO⟩
  iapply (wp_sentPass D κ c 4 (by decide) 0 3 rfl rfl (c + off 3) rfl _ Q)
  isplitl [P4 C4 W2 HO]
  · isplitr; · iexact HC
    isplitl [P4]; · iexact P4
    isplitl [C4]; · iexact C4
    isplitl [W2]; · iexact W2
    iexact HO
  iintro ⟨P4, W2, HO⟩
  iapply (wp_sentOwn D κ c 1 rfl 1 4 rfl rfl (c + off 0) rfl fullShare.right.left rfl _ Q)
  isplitl [P1 C1 HO]
  · isplitr; · iexact HC
    isplitl [P1]; · iexact P1
    isplitl [C1]; · iexact C1
    iexact HO
  iintro ⟨P1, HWm, HO⟩
  iapply (wp_sentPass D κ c 3 (by decide) 1 4 rfl rfl (c + off 2) rfl _ Q)
  isplitl [P3 C3 W1 HO]
  · isplitr; · iexact HC
    isplitl [P3]; · iexact P3
    isplitl [C3]; · iexact C3
    isplitl [W1]; · iexact W1
    iexact HO
  iintro ⟨P3, W1, HO⟩
  iapply (wp_sentPass D κ c 5 (by decide) 1 4 rfl rfl (c + off 4) rfl _ Q)
  isplitl [P5 C5 W3 HO]
  · isplitr; · iexact HC
    isplitl [P5]; · iexact P5
    isplitl [C5]; · iexact C5
    isplitl [W3]; · iexact W3
    iexact HO
  iintro ⟨P5, W3, HO⟩
  iapply (wp_sentPass D κ c 6 (by decide) 1 4 rfl rfl (c + off 6) rfl _ Q)
  isplitl [P6 C6 W5 HO]
  · isplitr; · iexact HC
    isplitl [P6]; · iexact P6
    isplitl [C6]; · iexact C6
    isplitl [W5]; · iexact W5
    iexact HO
  iintro ⟨P6, W5, HO⟩
  iapply Hk
  ihave HWr := (join_own D c fullShare.right) $$ [HWm HWr]
  · isplitl [HWm]; · iexact HWm
    iexact HWr
  ihave HW := (join_own D c fullShare) $$ [HWl HWr]
  · isplitl [HWl]; · iexact HWl
    iexact HWr
  unfold runPost all7 all8
  isplitl [Hi0 Hi1 G0 G1 G2 G3 G4 G5 G6 G7]
  · isplitl [Hi0]; · iexact Hi0
    isplitl [Hi1]; · iexact Hi1
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [Hb]; · iexact Hb
  isplitl [P0 P1 P2 P3 P4 P5 P6]
  · isplitl [P0]; · iexact P0
    isplitl [P1]; · iexact P1
    isplitl [P2]; · iexact P2
    isplitl [P3]; · iexact P3
    isplitl [P4]; · iexact P4
    isplitl [P5]; · iexact P5
    iexact P6
  isplitl [R0 R1 R2 R3 R4 R5 R6 W0 W1 W2 W3 W4 W5 W6]
  · isplitl [R0 W0]
    · isplitl [R0]; · iexact R0
      iexact W0
    isplitl [R1 W1]
    · isplitl [R1]; · iexact R1
      iexact W1
    isplitl [R2 W2]
    · isplitl [R2]; · iexact R2
      iexact W2
    isplitl [R3 W3]
    · isplitl [R3]; · iexact R3
      iexact W3
    isplitl [R4 W4]
    · isplitl [R4]; · iexact R4
      iexact W4
    isplitl [R5 W5]
    · isplitl [R5]; · iexact R5
      iexact W5
    isplitl [R6]; · iexact R6
    iexact W6
  isplitr [HO]
  · isplitl [HX]; · iexact HX
    isplitl [HW]; · iexact HW
    iexact HOut
  iexact HO

end Cert.KernelIdeal.Ring

end
-- ==== Proof.Slots.lean ====
module

public import proofs.«01_k».proof.Proof.Body
public import Idealize.ShloMosaic.Lib.Ring

/-! # Buffers cut into slots

The gathered weights' two buffers are eight slots each, K's and V's arrays eight chunks, their landing buffers two
halves: what is held of each whole is held piece by piece, and back. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Families of seven and eight -/

theorem all7_eq (Φ : Fin 7 → sProp 𝕄) : bigSep Finset.univ Φ = all7 Φ :=
  bigSep_univ_eq_bigSepL [(0 : Fin 7), 1, 2, 3, 4, 5, 6] (by decide) (by decide) Φ
theorem all8_eq (Φ : Fin 8 → sProp 𝕄) : bigSep Finset.univ Φ = all8 Φ :=
  bigSep_univ_eq_bigSepL [(0 : Fin 8), 1, 2, 3, 4, 5, 6, 7] (by decide) (by decide) Φ

theorem off_inj : Function.Injective off := by decide

/-- The chunks in the order a device meets them. -/
def turn (c : Dev nD) : Fin 8 ≃ Dev nD :=
  Equiv.ofBijective (fun j => c + off j)
    (Finite.injective_iff_bijective.mp fun _ _ h => off_inj (add_left_cancel (G := Fin 8) h))

theorem turned (c : Dev nD) (Φ : Dev nD → sProp 𝕄) : bigSep Finset.univ Φ = bigSep Finset.univ fun j => Φ (c + off j) :=
  bigSep_univ_equiv (turn c) Φ

/-- The first, and the seven after it. -/
theorem first_rest (Φ : Fin 8 → sProp 𝕄) : bigSep Finset.univ Φ = iprop(Φ 0 ∗ bigSep Finset.univ fun i : Fin 7 => Φ i.succ) := by
  rw [all8_eq, all7_eq]; rfl

/-! ## Pieces by a coordinate -/

section Pieces

variable {α : Type} [Fintype α] [DecidableEq α] {n : ℕ} (I : Fin n → Finset α) (p : α → ℕ) (hp : ∀ j, p j < n) (h : ∀ r j, j ∈ I r ↔ p j = r.val)

omit [Fintype α] [DecidableEq α] in
include h in
theorem pieces_disj (b b' : Fin n) (hb : b ≠ b') : Disjoint (I b) (I b') := by
  rw [Finset.disjoint_left]
  intro j h1 h2
  exact hb (Fin.ext (((h b j).mp h1).symm.trans ((h b' j).mp h2)))

include hp h in
theorem pieces_cover : Finset.univ.biUnion I = Finset.univ := by
  ext j
  simp only [Finset.mem_biUnion, Finset.mem_univ, true_and, iff_true]
  exact ⟨⟨p j, hp j⟩, (h _ j).mpr rfl⟩

end Pieces

theorem unit3 (o n : Fin 3 → ℕ) (d0 d1 d2 : ℕ) (h) (r : ℕ) (ho : o = ![r, 0, 0]) (hn : n = ![1, d1, d2]) (j : (⟨3, ![d0, d1, d2]⟩ : Shape).Idx) :
    j ∈ (Rect.unit (s := ⟨3, ![d0, d1, d2]⟩) o n h).set ↔ (j 0).val = r := by
  subst ho hn
  rw [Rect.mem_set_unit]
  have h1 : (j 1).val < d1 := (j 1).isLt
  have h2 : (j 2).val < d2 := (j 2).isLt
  constructor
  · intro hj
    have := hj 0
    have a : r ≤ (j 0).val ∧ (j 0).val < r + 1 := this
    omega
  · intro e a
    match a with
    | 0 => exact ⟨e.ge, by show (j 0).val < r + 1; omega⟩
    | 1 => exact ⟨Nat.zero_le _, by show (j 1).val < 0 + d1; omega⟩
    | 2 => exact ⟨Nat.zero_le _, by show (j 2).val < 0 + d2; omega⟩

theorem unit4 (o n : Fin 4 → ℕ) (d0 d1 d2 d3 : ℕ) (h) (r : ℕ) (ho : o = ![r, 0, 0, 0]) (hn : n = ![1, d1, d2, d3])
    (j : (⟨4, ![d0, d1, d2, d3]⟩ : Shape).Idx) :
    j ∈ (Rect.unit (s := ⟨4, ![d0, d1, d2, d3]⟩) o n h).set ↔ (j 0).val = r := by
  subst ho hn
  rw [Rect.mem_set_unit]
  have h1 : (j 1).val < d1 := (j 1).isLt
  have h2 : (j 2).val < d2 := (j 2).isLt
  have h3 : (j 3).val < d3 := (j 3).isLt
  constructor
  · intro hj
    have := hj 0
    have a : r ≤ (j 0).val ∧ (j 0).val < r + 1 := this
    omega
  · intro e a
    match a with
    | 0 => exact ⟨e.ge, by show (j 0).val < r + 1; omega⟩
    | 1 => exact ⟨Nat.zero_le _, by show (j 1).val < 0 + d1; omega⟩
    | 2 => exact ⟨Nat.zero_le _, by show (j 2).val < 0 + d2; omega⟩
    | 3 => exact ⟨Nat.zero_le _, by show (j 3).val < 0 + d3; omega⟩

theorem set_sQ (r : Dev nD) : (sQ r).view.set = (Rect.unit (s := S8x768x512) ![r.val, 0, 0] S1x768x512.size (inbQ r)).set :=
  (Memref.set_view_squeeze _ squeezes_S1x768x512_S768x512).trans (View.set_slice_whole _ _)
theorem set_sO (r : Dev nD) : (sO r).view.set = (Rect.unit (s := S8x512x768) ![r.val, 0, 0] S1x512x768.size (inbO r)).set :=
  (Memref.set_view_squeeze _ squeezes_S1x512x768_S512x768).trans (View.set_slice_whole _ _)
theorem set_cK (r : Dev nD) : (chunk mK r).view.set = (Rect.unit (s := S8x2x512x512) ![r.val, 0, 0, 0] S1x2x512x512.size (inbC r)).set :=
  (Memref.set_view_squeeze _ squeezes_S1x2x512x512_S2x512x512).trans (View.set_slice_whole _ _)
theorem set_cV (r : Dev nD) : (chunk mV r).view.set = (Rect.unit (s := S8x2x512x512) ![r.val, 0, 0, 0] S1x2x512x512.size (inbC r)).set :=
  (Memref.set_view_squeeze _ squeezes_S1x2x512x512_S2x512x512).trans (View.set_slice_whole _ _)
theorem set_bK (s : Fin 2) : (bufOf bK s).view.set = (Rect.unit (s := S2x2x512x512) ![s.val, 0, 0, 0] S1x2x512x512.size (inbKV s)).set :=
  (Memref.set_view_squeeze _ squeezes_S1x2x512x512_S2x512x512).trans (View.set_slice_whole _ _)
theorem set_bV (s : Fin 2) : (bufOf bV s).view.set = (Rect.unit (s := S2x2x512x512) ![s.val, 0, 0, 0] S1x2x512x512.size (inbKV s)).set :=
  (Memref.set_view_squeeze _ squeezes_S1x2x512x512_S2x512x512).trans (View.set_slice_whole _ _)

theorem mem_sQ (r : Dev nD) (j : S8x768x512.Idx) : j ∈ (sQ r).view.set ↔ (j 0).val = r.val := by
  rw [set_sQ]; exact unit3 _ _ _ _ _ _ _ rfl (by decide) j
theorem mem_sO (r : Dev nD) (j : S8x512x768.Idx) : j ∈ (sO r).view.set ↔ (j 0).val = r.val := by
  rw [set_sO]; exact unit3 _ _ _ _ _ _ _ rfl (by decide) j
theorem mem_cK (r : Dev nD) (j : S8x2x512x512.Idx) : j ∈ (chunk mK r).view.set ↔ (j 0).val = r.val := by
  rw [set_cK]; exact unit4 _ _ _ _ _ _ _ _ rfl (by decide) j
theorem mem_cV (r : Dev nD) (j : S8x2x512x512.Idx) : j ∈ (chunk mV r).view.set ↔ (j 0).val = r.val := by
  rw [set_cV]; exact unit4 _ _ _ _ _ _ _ _ rfl (by decide) j
theorem mem_bK (s : Fin 2) (j : S2x2x512x512.Idx) : j ∈ (bufOf bK s).view.set ↔ (j 0).val = s.val := by
  rw [set_bK]; exact unit4 _ _ _ _ _ _ _ _ rfl (by decide) j
theorem mem_bV (s : Fin 2) (j : S2x2x512x512.Idx) : j ∈ (bufOf bV s).view.set ↔ (j 0).val = s.val := by
  rw [set_bV]; exact unit4 _ _ _ _ _ _ _ _ rfl (by decide) j

theorem any_of (c : Dev nD) {sp : Space} {sh : Shape} {e : EltTy} (M : Memref sig .tc sp sh e) (f : M.view.ty.Contents (Elt F)) :
    (M.view.loc (c : Thread nD τ) ↦[M.view.set]{fullShare} f) ⊢ (iprop(∃ w, owns (c : Thread nD τ) M fullShare w) : sProp 𝕄) := by
  iintro H; iexists _; iapply (owns_intro (c : Thread nD τ) M fullShare f); iexact H
theorem of_any (c : Dev nD) {sp : Space} {sh : Shape} {e : EltTy} (M : Memref sig .tc sp sh e) :
    (iprop(∃ w, owns (c : Thread nD τ) M fullShare w) : sProp 𝕄) ⊢ iprop(∃ f : Buf (Elt F) (M.view.loc (c : Thread nD τ)), M.view.loc (c : Thread nD τ) ↦[M.view.set]{fullShare} f) := by
  unfold owns
  iintro ⟨%w, %f, -, H⟩; iexists f; iexact H

theorem disj_sQ (r r' : Dev nD) (h : r ≠ r') : Disjoint (sQ r).view.set (sQ r').view.set :=
  pieces_disj (α := S8x768x512.Idx) (fun r : Fin 8 => ((sQ r).view.set : Finset S8x768x512.Idx)) (fun j : S8x768x512.Idx => (j 0).val) mem_sQ r r' h
theorem cover_sQ : Finset.biUnion (β := S8x768x512.Idx) (Finset.univ : Finset (Dev nD)) (fun r => (sQ r).view.set) = Finset.univ :=
  pieces_cover (α := S8x768x512.Idx) (fun r : Fin 8 => ((sQ r).view.set : Finset S8x768x512.Idx)) (fun j : S8x768x512.Idx => (j 0).val) (fun j => (j 0).isLt) mem_sQ

theorem disj_sO (r r' : Dev nD) (h : r ≠ r') : Disjoint (sO r).view.set (sO r').view.set :=
  pieces_disj (α := S8x512x768.Idx) (fun r : Fin 8 => ((sO r).view.set : Finset S8x512x768.Idx)) (fun j : S8x512x768.Idx => (j 0).val) mem_sO r r' h
theorem cover_sO : Finset.biUnion (β := S8x512x768.Idx) (Finset.univ : Finset (Dev nD)) (fun r => (sO r).view.set) = Finset.univ :=
  pieces_cover (α := S8x512x768.Idx) (fun r : Fin 8 => ((sO r).view.set : Finset S8x512x768.Idx)) (fun j : S8x512x768.Idx => (j 0).val) (fun j => (j 0).isLt) mem_sO

theorem disj_cK (r r' : Dev nD) (h : r ≠ r') : Disjoint (chunk mK r).view.set (chunk mK r').view.set :=
  pieces_disj (α := S8x2x512x512.Idx) (fun r : Fin 8 => ((chunk mK r).view.set : Finset S8x2x512x512.Idx)) (fun j : S8x2x512x512.Idx => (j 0).val) mem_cK r r' h
theorem cover_cK : Finset.biUnion (β := S8x2x512x512.Idx) (Finset.univ : Finset (Dev nD)) (fun r => (chunk mK r).view.set) = Finset.univ :=
  pieces_cover (α := S8x2x512x512.Idx) (fun r : Fin 8 => ((chunk mK r).view.set : Finset S8x2x512x512.Idx)) (fun j : S8x2x512x512.Idx => (j 0).val) (fun j => (j 0).isLt) mem_cK

theorem disj_cV (r r' : Dev nD) (h : r ≠ r') : Disjoint (chunk mV r).view.set (chunk mV r').view.set :=
  pieces_disj (α := S8x2x512x512.Idx) (fun r : Fin 8 => ((chunk mV r).view.set : Finset S8x2x512x512.Idx)) (fun j : S8x2x512x512.Idx => (j 0).val) mem_cV r r' h
theorem cover_cV : Finset.biUnion (β := S8x2x512x512.Idx) (Finset.univ : Finset (Dev nD)) (fun r => (chunk mV r).view.set) = Finset.univ :=
  pieces_cover (α := S8x2x512x512.Idx) (fun r : Fin 8 => ((chunk mV r).view.set : Finset S8x2x512x512.Idx)) (fun j : S8x2x512x512.Idx => (j 0).val) (fun j => (j 0).isLt) mem_cV

theorem disj_bK (r r' : Fin 2) (h : r ≠ r') : Disjoint (bufOf bK r).view.set (bufOf bK r').view.set :=
  pieces_disj (α := S2x2x512x512.Idx) (fun r : Fin 2 => ((bufOf bK r).view.set : Finset S2x2x512x512.Idx)) (fun j : S2x2x512x512.Idx => (j 0).val) mem_bK r r' h
theorem cover_bK : Finset.biUnion (β := S2x2x512x512.Idx) (Finset.univ : Finset (Fin 2)) (fun r => (bufOf bK r).view.set) = Finset.univ :=
  pieces_cover (α := S2x2x512x512.Idx) (fun r : Fin 2 => ((bufOf bK r).view.set : Finset S2x2x512x512.Idx)) (fun j : S2x2x512x512.Idx => (j 0).val) (fun j => (j 0).isLt) mem_bK

theorem disj_bV (r r' : Fin 2) (h : r ≠ r') : Disjoint (bufOf bV r).view.set (bufOf bV r').view.set :=
  pieces_disj (α := S2x2x512x512.Idx) (fun r : Fin 2 => ((bufOf bV r).view.set : Finset S2x2x512x512.Idx)) (fun j : S2x2x512x512.Idx => (j 0).val) mem_bV r r' h
theorem cover_bV : Finset.biUnion (β := S2x2x512x512.Idx) (Finset.univ : Finset (Fin 2)) (fun r => (bufOf bV r).view.set) = Finset.univ :=
  pieces_cover (α := S2x2x512x512.Idx) (fun r : Fin 2 => ((bufOf bV r).view.set : Finset S2x2x512x512.Idx)) (fun j : S2x2x512x512.Idx => (j 0).val) (fun j => (j 0).isLt) mem_bV

theorem split_sQ (c : Dev nD) (f : Buf (Elt F) ((c : Thread nD τ).loc cc0_scratch0)) :
    ((((c : Thread nD τ).loc cc0_scratch0) ↦{fullShare} f) : sProp 𝕄) ⊢ bigSep Finset.univ fun r : Dev nD => iprop(∃ w, owns (c : Thread nD τ) (sQ r) fullShare w) := by
  rw [Ring.pointsTo_blocks (ℓ := (c : Thread nD τ).loc cc0_scratch0) (fun r : Dev nD => (sQ r).view.set) disj_sQ cover_sQ f]
  exact bigSep_mono fun r _ => any_of c (sQ r) f
theorem join_sQ (z : Elt F .bf16) (c : Dev nD) :
    (bigSep Finset.univ fun r : Dev nD => iprop(∃ w, owns (c : Thread nD τ) (sQ r) fullShare w))
      ⊢ (iprop(∃ f : Buf (Elt F) ((c : Thread nD τ).loc cc0_scratch0), ((c : Thread nD τ).loc cc0_scratch0) ↦{fullShare} f) : sProp 𝕄) := by
  exact (bigSep_mono fun r _ => of_any c (sQ r)).trans
    (Ring.pointsTo_blocks_join_exists (ℓ := (c : Thread nD τ).loc cc0_scratch0) (fun r : Dev nD => (sQ r).view.set) disj_sQ cover_sQ (fun _ => z))

theorem split_sO (c : Dev nD) (f : Buf (Elt F) ((c : Thread nD τ).loc cc0_scratch1)) :
    ((((c : Thread nD τ).loc cc0_scratch1) ↦{fullShare} f) : sProp 𝕄) ⊢ bigSep Finset.univ fun r : Dev nD => iprop(∃ w, owns (c : Thread nD τ) (sO r) fullShare w) := by
  rw [Ring.pointsTo_blocks (ℓ := (c : Thread nD τ).loc cc0_scratch1) (fun r : Dev nD => (sO r).view.set) disj_sO cover_sO f]
  exact bigSep_mono fun r _ => any_of c (sO r) f
theorem join_sO (z : Elt F .bf16) (c : Dev nD) :
    (bigSep Finset.univ fun r : Dev nD => iprop(∃ w, owns (c : Thread nD τ) (sO r) fullShare w))
      ⊢ (iprop(∃ f : Buf (Elt F) ((c : Thread nD τ).loc cc0_scratch1), ((c : Thread nD τ).loc cc0_scratch1) ↦{fullShare} f) : sProp 𝕄) := by
  exact (bigSep_mono fun r _ => of_any c (sO r)).trans
    (Ring.pointsTo_blocks_join_exists (ℓ := (c : Thread nD τ).loc cc0_scratch1) (fun r : Dev nD => (sO r).view.set) disj_sO cover_sO (fun _ => z))

theorem blocks_cK (D : Data F) (c : Dev nD) :
    ((((c : Thread nD τ).loc main_v6) ↦{fullShare} D.k c) : sProp 𝕄) = bigSep Finset.univ fun r : Dev nD => srcK D c r :=
  Ring.pointsTo_blocks (ℓ := (c : Thread nD τ).loc main_v6) (fun r : Dev nD => (chunk mK r).view.set) disj_cK cover_cK (D.k c)

theorem blocks_cV (D : Data F) (c : Dev nD) :
    ((((c : Thread nD τ).loc main_v9) ↦{fullShare} D.v c) : sProp 𝕄) = bigSep Finset.univ fun r : Dev nD => srcV D c r :=
  Ring.pointsTo_blocks (ℓ := (c : Thread nD τ).loc main_v9) (fun r : Dev nD => (chunk mV r).view.set) disj_cV cover_cV (D.v c)

theorem split_bK (c : Dev nD) (f : Buf (Elt F) ((c : Thread nD τ).loc cc0_scratch2)) :
    ((((c : Thread nD τ).loc cc0_scratch2) ↦{fullShare} f) : sProp 𝕄) ⊢ bigSep Finset.univ fun r : Fin 2 => iprop(∃ w, owns (c : Thread nD τ) (bufOf bK r) fullShare w) := by
  rw [Ring.pointsTo_blocks (ℓ := (c : Thread nD τ).loc cc0_scratch2) (fun r : Fin 2 => (bufOf bK r).view.set) disj_bK cover_bK f]
  exact bigSep_mono fun r _ => any_of c (bufOf bK r) f
theorem join_bK (z : Elt F .bf16) (c : Dev nD) :
    (bigSep Finset.univ fun r : Fin 2 => iprop(∃ w, owns (c : Thread nD τ) (bufOf bK r) fullShare w))
      ⊢ (iprop(∃ f : Buf (Elt F) ((c : Thread nD τ).loc cc0_scratch2), ((c : Thread nD τ).loc cc0_scratch2) ↦{fullShare} f) : sProp 𝕄) := by
  exact (bigSep_mono fun r _ => of_any c (bufOf bK r)).trans
    (Ring.pointsTo_blocks_join_exists (ℓ := (c : Thread nD τ).loc cc0_scratch2) (fun r : Fin 2 => (bufOf bK r).view.set) disj_bK cover_bK (fun _ => z))

theorem split_bV (c : Dev nD) (f : Buf (Elt F) ((c : Thread nD τ).loc cc0_scratch3)) :
    ((((c : Thread nD τ).loc cc0_scratch3) ↦{fullShare} f) : sProp 𝕄) ⊢ bigSep Finset.univ fun r : Fin 2 => iprop(∃ w, owns (c : Thread nD τ) (bufOf bV r) fullShare w) := by
  rw [Ring.pointsTo_blocks (ℓ := (c : Thread nD τ).loc cc0_scratch3) (fun r : Fin 2 => (bufOf bV r).view.set) disj_bV cover_bV f]
  exact bigSep_mono fun r _ => any_of c (bufOf bV r) f
theorem join_bV (z : Elt F .bf16) (c : Dev nD) :
    (bigSep Finset.univ fun r : Fin 2 => iprop(∃ w, owns (c : Thread nD τ) (bufOf bV r) fullShare w))
      ⊢ (iprop(∃ f : Buf (Elt F) ((c : Thread nD τ).loc cc0_scratch3), ((c : Thread nD τ).loc cc0_scratch3) ↦{fullShare} f) : sProp 𝕄) := by
  exact (bigSep_mono fun r _ => of_any c (bufOf bV r)).trans
    (Ring.pointsTo_blocks_join_exists (ℓ := (c : Thread nD τ).loc cc0_scratch3) (fun r : Fin 2 => (bufOf bV r).view.set) disj_bV cover_bV (fun _ => z))

end Cert.KernelIdeal.Ring

end
-- ==== Proof.Cells.lean ====
module

public import proofs.«01_k».proof.Proof.Slots

/-! # Into the run and out of it

What a device holds on entering its kernel (its buffers whole, its semaphores open at round 0, its tokens and
credit) is cut into what its run starts from; what the run ends with is put together again, every semaphore
closed and back at zero. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (D : Data F)

/-! ## Families -/

theorem zip {I : Type} (s : Finset I) (Φ Ψ : I → sProp 𝕄) : iprop(bigSep s Φ ∗ bigSep s Ψ) ⊢ bigSep s fun i => iprop(Φ i ∗ Ψ i) :=
  Entails.of_eq (bigSep_sep' s Φ Ψ).symm
theorem unzip {I : Type} (s : Finset I) (Φ Ψ : I → sProp 𝕄) : (bigSep s fun i => iprop(Φ i ∗ Ψ i)) ⊢ iprop(bigSep s Φ ∗ bigSep s Ψ) :=
  Entails.of_eq (bigSep_sep' s Φ Ψ)
theorem two (Φ : Fin 2 → sProp 𝕄) : bigSep Finset.univ Φ = iprop(Φ 0 ∗ Φ 1) := BI.bigSep_fin_two Φ

/-! ## A device's semaphores -/

theorem cellI_inj : ∀ c : Dev nD, Function.Injective (cellI c) := by decide +kernel

/-- The kernel's own semaphores. -/
def osem (k : Fin 52) : SemLoc sig := .dma ⟨4 + k.val, by have := k.isLt; show _ < 56; omega⟩
theorem osem_inj : Function.Injective osem := by decide +kernel
theorem osem_of : ∀ (c : Dev nD) (ι : Ix0), ∃ k, cellI c ι = osem k := by decide +kernel

/-- Its semaphores that `c` does not use. -/
def spare (c : Dev nD) : Finset (SemLoc sig) := Finset.univ.image osem \ Finset.univ.image (cellI c)

theorem own_sems (c : Dev nD) : (Pipeline.ownSems0 osem c : sProp 𝕄)
    = iprop(bigSep Finset.univ (fun ι : Ix0 => semVal (gI c ι) 0) ∗ bigSep (spare c) fun sm => semVal ((c : Thread nD τ), sm) 0) := by
  have e : (Pipeline.ownSems0 osem c : sProp 𝕄) = bigSep (Finset.univ.image osem) fun sm => semVal ((c : Thread nD τ), sm) 0 :=
    (bigSep_image_of_injOn (s := Finset.univ) osem_inj.injOn fun sm : SemLoc sig => (semVal ((c : Thread nD τ), sm) 0 : sProp 𝕄)).symm
  have sub : Finset.univ.image (cellI c) ⊆ Finset.univ.image osem := fun sm h => by
    obtain ⟨ι, -, rfl⟩ := Finset.mem_image.mp h
    obtain ⟨k, hk⟩ := osem_of c ι
    rw [hk]; exact Finset.mem_image_of_mem _ (Finset.mem_univ _)
  have cut : (bigSep (Finset.univ.image osem) fun sm => semVal ((c : Thread nD τ), sm) 0 : sProp 𝕄)
      = iprop((bigSep (Finset.univ.image (cellI c)) fun sm => semVal ((c : Thread nD τ), sm) 0)
        ∗ bigSep (Finset.univ.image osem \ Finset.univ.image (cellI c)) fun sm => semVal ((c : Thread nD τ), sm) 0) := BI.bigSep_sdiff_split sub
  rw [e, cut, bigSep_image_of_injOn (s := Finset.univ) (cellI_inj c).injOn]
  rfl

theorem split_Ix (Φ : Ix0 → sProp 𝕄) : bigSep Finset.univ Φ
    = iprop((bigSep Finset.univ fun i : Fin 7 => iprop(Φ (.inl (i, 0)) ∗ Φ (.inl (i, 1)) ∗ Φ (.inl (i, 2)) ∗ Φ (.inl (i, 3))))
      ∗ (Φ (.inr (0, 0)) ∗ Φ (.inr (0, 1))) ∗ (Φ (.inr (1, 0)) ∗ Φ (.inr (1, 1)))) := by
  have e4 (Ψ : Fin 4 → sProp 𝕄) : bigSep Finset.univ Ψ = iprop(Ψ 0 ∗ Ψ 1 ∗ Ψ 2 ∗ Ψ 3) :=
    bigSep_univ_eq_bigSepL [(0 : Fin 4), 1, 2, 3] (by decide) (by decide) Ψ
  have e2 (Ψ : Fin 2 → sProp 𝕄) : bigSep Finset.univ Ψ = iprop(Ψ 0 ∗ Ψ 1) := BI.bigSep_fin_two Ψ
  rw [bigSep_univ_sum, bigSep_univ_prod, bigSep_univ_prod, e2, e2, e2, bigSep_congr fun i _ => e4 fun a => Φ (.inl (i, a))]
  rfl

/-- A semaphore open at round 0. -/
def at0 (g : GSem nD τ sig) : sProp 𝕄 := iprop(atPos ER g 0 ∅ 0 ∗ reached ER g 0)

theorem open_one (κ : GSem nD τ sig → ℕ) {g : GSem nD τ sig} (h : g ∈ barCells ∪ scCells) :
    iprop(recs D κ ∗ openTok ER g ∗ semVal g 0) ⊢ (|={Set.univ}=> at0 g : sProp 𝕄) := by
  iintro ⟨#HR, Ho, Hv⟩
  imod (cell_open ER (Rd D) (g := g) (Set.mem_univ (κ g))) $$ [Ho Hv] with ⟨Hp, #Hr⟩
  · isplitr; · iapply (inv_of D κ h); iexact HR
    isplitl [Ho]; · iexact Ho
    iexact Hv
  imodintro
  unfold at0
  isplitl [Hp]; · iexact Hp
  iexact Hr

theorem close_one (κ : GSem nD τ sig → ℕ) {g : GSem nD τ sig} (h : g ∈ barCells ∪ scCells) (R : ℕ) (hR : ∀ r, R ≤ r → (Rd D).duties g r = ∅) :
    iprop(recs D κ ∗ atPos ER g R ∅ 0) ⊢ (|={Set.univ}=> semVal g 0 : sProp 𝕄) := by
  iintro ⟨#HR, Hp⟩
  iapply (cell_close ER (Rd D) (g := g) (Set.mem_univ (κ g)) id hR)
  isplitr; · iapply (inv_of D κ h); iexact HR
  iexact Hp

theorem done_ring (c : Dev nD) (a : Fin 6) (r : Dev nD) (n : ℕ) (h : 1 ≤ n) : (Rd D).duties (gR c a r) n = ∅ := by
  rw [duties_ring]; exact if_neg (by omega)
theorem done_kv (c : Dev nD) (b s : Fin 2) (n : ℕ) (h : 4 ≤ n) : (Rd D).duties (gK c b s) n = ∅ := by
  rw [duties_kv]; exact if_neg (by omega)
theorem done_bar (c : Dev nD) (n : ℕ) (h : 1 ≤ n) : (Rd D).duties (gB c) n = ∅ := by
  rw [duties_bar]; exact if_neg (by omega)

/-- Every semaphore a device uses opened. -/
theorem open_all (κ : GSem nD τ sig → ℕ) (c : Dev nD) :
    iprop(recs D κ ∗ (bigSep Finset.univ fun ι : Ix0 => openTok ER (gI c ι)) ∗ bigSep Finset.univ fun ι : Ix0 => semVal (gI c ι) 0)
      ⊢ (|={Set.univ}=> bigSep Finset.univ fun ι : Ix0 => at0 (gI c ι) : sProp 𝕄) := by
  iintro ⟨#HR, Ho, Hv⟩
  iapply (BI.bigSep_fupd Finset.univ _)
  iapply (bigSep_with_persistent (R := recs D κ) (Φ := fun ι : Ix0 => iprop(openTok ER (gI c ι) ∗ semVal (gI c ι) 0))
    fun ι _ => open_one D κ (mem_gI c ι))
  isplitr; · iexact HR
  iapply zip
  isplitl [Ho]; · iexact Ho
  iexact Hv

/-! ## Into the run -/

/-- The tokens for send `i`; the eight fetches'. -/
def sTok (c : Dev nD) (i : Fin 7) : sProp 𝕄 :=
  iprop((dutyTok ER (gR c (sa i) (c + so i)) 0 false ∗ dutyTok ER (gR c (sb i) (c + so i)) 0 false)
    ∗ dutyTok ER (gR (c + dd i) 2 (c + so i)) 0 false ∗ dutyTok ER (gR (c + dd i) 5 (c + so i)) 0 false)
def kTok (c : Dev nD) : sProp 𝕄 := bigSep Finset.univ fun j : Fin 8 => kvTok c (bufJ j) (rndJ j)

/-- The tokens for the two signals. -/
def bTok (c : Dev nD) : sProp 𝕄 :=
  iprop((dutyTok ER (gB (prv c)) 0 false ∗ reached ER (gB (prv c)) 0) ∗ (dutyTok ER (gB (nxt c)) 0 true ∗ reached ER (gB (nxt c)) 0))

/-- What is a device's own of the launch's tokens and positions, and its credit. -/
def lin (c : Dev nD) : sProp 𝕄 :=
  iprop(atPos ER (gB c) 0 ∅ 0 ∗ bTok c ∗ (bigSep Finset.univ fun i : Fin 7 => sTok c i) ∗ kTok c)
def creds (c : Dev nD) : sProp 𝕄 :=
  iprop(cred (tallyAt (gB c) () 2) ∗ bigSep Finset.univ fun i : Fin 7 => cred2 c 2 5 (c + off i.succ))

/-- Slot `r` at some contents. -/
def slotAny (c r : Dev nD) : sProp 𝕄 :=
  iprop((∃ w, owns (c : Thread nD τ) (sQ r) fullShare w) ∗ ∃ w, owns (c : Thread nD τ) (sO r) fullShare w)

/-- One send, one step, one slot lent to a neighbour. -/
theorem deal (c : Dev nD) (i : Fin 7) :
    iprop((at0 (gI c (.inl (i, 0))) ∗ at0 (gI c (.inl (i, 1))) ∗ at0 (gI c (.inl (i, 2))) ∗ at0 (gI c (.inl (i, 3))))
        ∗ sTok c i ∗ cred2 c 2 5 (c + off i.succ) ∗ slotAny c (c + off i.succ))
      ⊢ (iprop(sendIn c i ∗ recvIn c i ∗ open1 c (c + off i.succ)) : sProp 𝕄) := by
  show iprop((at0 (gR c (sa i) (c + so i)) ∗ at0 (gR c (sb i) (c + so i)) ∗ at0 (gR c 2 (c + off i.succ)) ∗ at0 (gR c 5 (c + off i.succ)))
        ∗ sTok c i ∗ cred2 c 2 5 (c + off i.succ) ∗ slotAny c (c + off i.succ)) ⊢ _
  unfold at0 sTok slotAny sendIn recvIn sndTok pos2 open1
  iintro ⟨⟨⟨Ha, #Ra⟩, ⟨Hb, #Rb⟩, ⟨H2, #R2⟩, H5, #R5⟩, ⟨⟨Ta, Tb⟩, T2, T5⟩, Hc, HQ, HO⟩
  isplitl [Ha Hb Ta Tb T2 T5]
  · isplitr [Ha Hb]
    · isplitl [Ta]
      · isplitl [Ta]; · iexact Ta
        iexact Ra
      isplitl [Tb]
      · isplitl [Tb]; · iexact Tb
        iexact Rb
      isplitl [T2]; · iexact T2
      iexact T5
    isplitl [Ha]; · iexact Ha
    iexact Hb
  isplitl [H2 H5 Hc]
  · isplitl [H2 H5]
    · isplitl [H2]; · iexact H2
      iexact H5
    iexact Hc
  isplitl [HQ]; · iexact HQ
  isplitl [HO]; · iexact HO
  isplitr; · iexact R2
  iexact R5

theorem hand_eq (c e : Dev nD) (i : Fin 7) (h1 : c + dd i = e) (h2 : c + so i = e + off i.succ) :
    (hand (F := F) c i : sProp 𝕄) = open1 e (e + off i.succ) := by unfold hand; rw [h1, h2]

theorem to_prv : ∀ (c : Dev nD) (i : Fin 7), dd i = 1 → prv c + dd i = c ∧ prv c + so i = c + off i.succ := by decide
theorem to_nxt : ∀ (c : Dev nD) (i : Fin 7), dd i = 7 → nxt c + dd i = c ∧ nxt c + so i = c + off i.succ := by decide

theorem hand_prv (c : Dev nD) (i : Fin 7) (h : dd i = 1) : (hand (F := F) (prv c) i : sProp 𝕄) = open1 c (c + off i.succ) :=
  hand_eq _ _ i (to_prv c i h).1 (to_prv c i h).2
theorem hand_nxt (c : Dev nD) (i : Fin 7) (h : dd i = 7) : (hand (F := F) (nxt c) i : sProp 𝕄) = open1 c (c + off i.succ) :=
  hand_eq _ _ i (to_nxt c i h).1 (to_nxt c i h).2

/-- The slots lent: to the left neighbour, and to the right. -/
theorem lend (c : Dev nD) :
    (bigSep Finset.univ fun i : Fin 7 => open1 c (c + off i.succ)) ⊢ (iprop(barPay (F := F) (prv c) false ∗ barPay (F := F) (nxt c) true) : sProp 𝕄) := by
  rw [all7_eq]
  unfold all7 barPay
  rw [hand_prv c 0 rfl, hand_prv c 2 rfl, hand_prv c 4 rfl, hand_nxt c 1 rfl, hand_nxt c 3 rfl, hand_nxt c 5 rfl, hand_nxt c 6 rfl]
  iintro ⟨H0, H1, H2, H3, H4, H5, H6⟩
  isplitl [H0 H2 H4]
  · isplitl [H0]; · iexact H0
    isplitl [H2]; · iexact H2
    iexact H4
  isplitl [H1]; · iexact H1
  isplitl [H3]; · iexact H3
  isplitl [H5]; · iexact H5
  iexact H6

theorem deals (c : Dev nD) :
    (bigSep Finset.univ fun i : Fin 7 => iprop((at0 (gI c (.inl (i, 0))) ∗ at0 (gI c (.inl (i, 1))) ∗ at0 (gI c (.inl (i, 2))) ∗ at0 (gI c (.inl (i, 3))))
        ∗ sTok c i ∗ cred2 c 2 5 (c + off i.succ) ∗ slotAny c (c + off i.succ)))
      ⊢ (bigSep Finset.univ fun i : Fin 7 => iprop(sendIn c i ∗ recvIn c i ∗ open1 c (c + off i.succ)) : sProp 𝕄) :=
  bigSep_mono fun i _ => deal c i

/-- A device's buffers other than the windows': the gathered weights', the landing buffers, K and V. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def kvSrc (c : Dev nD) : sProp 𝕄 :=
  iprop((((c : Thread nD τ).loc main_v6) ↦{fullShare} D.k c) ∗ (((c : Thread nD τ).loc main_v9) ↦{fullShare} D.v c))

/-- The windows' staging buffers on entry, and on leaving. -/
def winIn (c : Dev nD) : sProp 𝕄 :=
  iprop(owns (c : Thread nD τ) mX fullShare (D.x c) ∗ own D c fullShare ∗ ∃ w, owns (c : Thread nD τ) mOut fullShare w)
def winOut (c : Dev nD) : sProp 𝕄 :=
  iprop(owns (c : Thread nD τ) mX fullShare (D.x c) ∗ own D c fullShare ∗ owns (c : Thread nD τ) mOut fullShare (outV (acc D c 0 7) (acc D c 1 7)))

/-- The slots of the gathered weights. -/
theorem cut_slots (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
      ⊢ (iprop(slotAny c (c + off 0) ∗ bigSep Finset.univ fun i : Fin 7 => slotAny c (c + off i.succ)) : sProp 𝕄) := by
  rw [← first_rest fun j => slotAny c (c + off j), ← turned c fun r => slotAny c r]
  unfold slotAny
  rw [bigSep_sep']
  iintro ⟨⟨%f, HQ⟩, %g, HO⟩
  isplitl [HQ]; · iapply (split_sQ c f); iexact HQ
  iapply (split_sO c g); iexact HO
theorem glue_slots (z : Elt F .bf16) (c : Dev nD) :
    (iprop(slotAny c (c + off 0) ∗ bigSep Finset.univ fun i : Fin 7 => slotAny c (c + off i.succ)) : sProp 𝕄)
      ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  rw [← first_rest fun j => slotAny c (c + off j), ← turned c fun r => slotAny c r]
  unfold slotAny
  rw [bigSep_sep']
  iintro ⟨HQ, HO⟩
  isplitl [HQ]; · iapply (join_sQ z c); iexact HQ
  iapply (join_sO z c); iexact HO

theorem cut_bufs (c : Dev nD) :
    iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f))
      ⊢ (iprop(bufAny c 0 ∗ bufAny c 1) : sProp 𝕄) := by
  rw [← two fun s => bufAny c s]
  unfold bufAny
  rw [bigSep_sep']
  iintro ⟨⟨%f, HQ⟩, %g, HO⟩
  isplitl [HQ]; · iapply (split_bK c f); iexact HQ
  iapply (split_bV c g); iexact HO
theorem glue_bufs (z : Elt F .bf16) (c : Dev nD) :
    (iprop(bufAny c 0 ∗ bufAny c 1) : sProp 𝕄)
      ⊢ iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) := by
  rw [← two fun s => bufAny c s]
  unfold bufAny
  rw [bigSep_sep']
  iintro ⟨HQ, HO⟩
  isplitl [HQ]; · iapply (join_bK z c); iexact HQ
  iapply (join_bV z c); iexact HO

theorem cut_src (c : Dev nD) : (kvSrc D c : sProp 𝕄) = bigSep Finset.univ fun j : Fin 8 => srcAt D c j := by
  unfold kvSrc srcAt
  rw [bigSep_sep', ← turned c fun r => srcK D c r, ← turned c fun r => srcV D c r, blocks_cK, blocks_cV]

/-- All a device's run starts from. -/
theorem enter (c : Dev nD) :
    iprop((scratch (F := F) c ∗ kvSrc D c) ∗ (bigSep Finset.univ fun ι : Ix0 => at0 (gI c ι)) ∗ lin c ∗ creds c ∗ winIn D c ∗ owesE c (owed0 c))
      ⊢ (iprop(runPre D c ∗ slotAny c (c + off 0)) : sProp 𝕄) := by
  rw [cut_src, split_Ix]
  unfold scratch lin creds bTok kTok runPre sigs winIn
  rw [← all7_eq fun i => sendIn c i, ← all7_eq fun i => recvIn c i, ← all8_eq fun j => fetchIn D c (bufJ j) (rndJ j) j]
  iintro ⟨⟨⟨HQ, HO, HbK, HbV⟩, Hsrc⟩, ⟨H7, ⟨K00, K01⟩, K10, K11⟩, ⟨Hb, ⟨⟨TP, RP⟩, TN, RN⟩, HsT, HkT⟩, ⟨Hbc, Hcr⟩, HW, Howe⟩
  ihave Hs := (cut_slots c) $$ [HQ HO]
  · isplitl [HQ]; · iexact HQ
    iexact HO
  icases Hs with ⟨Hs0, Hs⟩
  ihave Hbuf := (cut_bufs c) $$ [HbK HbV]
  · isplitl [HbK]; · iexact HbK
    iexact HbV
  icases Hbuf with ⟨B0, B1⟩
  ihave HD := (deals c) $$ [H7 HsT Hcr Hs]
  · iapply zip; isplitl [H7]; · iexact H7
    iapply zip; isplitl [HsT]; · iexact HsT
    iapply zip; isplitl [Hcr]; · iexact Hcr
    iexact Hs
  ihave HD := (unzip _ _ _) $$ HD
  icases HD with ⟨HSend, HD⟩
  ihave HD := (unzip _ _ _) $$ HD
  icases HD with ⟨HRecv, HD⟩
  ihave HL := (lend c) $$ HD
  icases HL with ⟨LP, LN⟩
  isplitr [Hs0]
  · isplitl [K00 K01 K10 K11 B0 B1 HkT Hsrc]
    · isplitl [K00 K10 B0]
      · unfold idle kvPos
        isplitl [K00 K10]
        · isplitl [K00]
          · ihave K := (show (at0 (gI c (.inr (0, 0))) : sProp 𝕄) ⊢ iprop(atPos ER (gK c 0 0) 0 ∅ 0 ∗ reached ER (gK c 0 0) 0) from .rfl) $$ K00; iexact K
          · ihave K := (show (at0 (gI c (.inr (1, 0))) : sProp 𝕄) ⊢ iprop(atPos ER (gK c 1 0) 0 ∅ 0 ∗ reached ER (gK c 1 0) 0) from .rfl) $$ K10; iexact K
        iexact B0
      isplitl [K01 K11 B1]
      · unfold idle kvPos
        isplitl [K01 K11]
        · isplitl [K01]
          · ihave K := (show (at0 (gI c (.inr (0, 1))) : sProp 𝕄) ⊢ iprop(atPos ER (gK c 0 1) 0 ∅ 0 ∗ reached ER (gK c 0 1) 0) from .rfl) $$ K01; iexact K
          · ihave K := (show (at0 (gI c (.inr (1, 1))) : sProp 𝕄) ⊢ iprop(atPos ER (gK c 1 1) 0 ∅ 0 ∗ reached ER (gK c 1 1) 0) from .rfl) $$ K11; iexact K
        iexact B1
      unfold fetchIn
      iapply zip; isplitl [HkT]; · iexact HkT
      iexact Hsrc
    isplitl [Hb Hbc TP RP TN RN LP LN]
    · isplitl [Hb]; · iexact Hb
      isplitl [Hbc]; · iexact Hbc
      isplitl [TP RP LP]
      · isplitl [TP]; · iexact TP
        isplitl [LP]; · iexact LP
        iexact RP
      isplitl [TN]; · iexact TN
      isplitl [LN]; · iexact LN
      iexact RN
    isplitl [HSend]; · iexact HSend
    isplitl [HRecv]; · iexact HRecv
    isplitl [HW]; · iexact HW
    iexact Howe
  iexact Hs0

end Cert.KernelIdeal.Ring

end
-- ==== Proof.Leave.lean ====
module

public import proofs.«01_k».proof.Proof.Cells

/-! # Out of the run

Every semaphore closed and back at zero, every buffer whole again. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (D : Data F)

/-- The four semaphores of one send and one step closed. -/
theorem close_i (κ : GSem nD τ sig → ℕ) (c : Dev nD) (i : Fin 7) :
    iprop(recs D κ ∗ sentOut c i ∗ pos2 c 2 5 (c + off i.succ) 1)
      ⊢ (|={Set.univ}=> (semVal (gR c (sa i) (c + so i)) 0 ∗ semVal (gR c (sb i) (c + so i)) 0 ∗ semVal (gR c 2 (c + off i.succ)) 0
        ∗ semVal (gR c 5 (c + off i.succ)) 0) : sProp 𝕄) := by
  unfold sentOut pos2
  iintro ⟨#HR, ⟨Ha, Hb⟩, H2, H5⟩
  imod (close_one D κ (mem_sa c i) 1 (done_ring D c _ _)) $$ [Ha] with Va
  · isplitr; · iexact HR
    iexact Ha
  imod (close_one D κ (mem_sb c i) 1 (done_ring D c _ _)) $$ [Hb] with Vb
  · isplitr; · iexact HR
    iexact Hb
  imod (close_one D κ (mem_rQ c i) 1 (done_ring D c _ _)) $$ [H2] with V2
  · isplitr; · iexact HR
    iexact H2
  imod (close_one D κ (mem_rO c i) 1 (done_ring D c _ _)) $$ [H5] with V5
  · isplitr; · iexact HR
    iexact H5
  imodintro
  isplitl [Va]; · iexact Va
  isplitl [Vb]; · iexact Vb
  isplitl [V2]; · iexact V2
  iexact V5

/-- A landing buffer's two semaphores closed. -/
theorem close_s (κ : GSem nD τ sig → ℕ) (c : Dev nD) (s : Fin 2) :
    iprop(recs D κ ∗ kvPos c s 4) ⊢ (|={Set.univ}=> (semVal (gK c 0 s) 0 ∗ semVal (gK c 1 s) 0) : sProp 𝕄) := by
  unfold kvPos
  iintro ⟨#HR, ⟨H0, -⟩, H1, -⟩
  imod (close_one D κ (mem_gK c 0 s) 4 (done_kv D c _ _)) $$ [H0] with V0
  · isplitr; · iexact HR
    iexact H0
  imod (close_one D κ (mem_gK c 1 s) 4 (done_kv D c _ _)) $$ [H1] with V1
  · isplitr; · iexact HR
    iexact H1
  imodintro
  isplitl [V0]; · iexact V0
  iexact V1

theorem close_all (κ : GSem nD τ sig → ℕ) (c : Dev nD) :
    iprop(recs D κ ∗ bigSep Finset.univ fun i : Fin 7 => iprop(sentOut c i ∗ pos2 c 2 5 (c + off i.succ) 1))
      ⊢ (|={Set.univ}=> (bigSep Finset.univ fun i : Fin 7 => iprop(semVal (gR c (sa i) (c + so i)) 0 ∗ semVal (gR c (sb i) (c + so i)) 0
        ∗ semVal (gR c 2 (c + off i.succ)) 0 ∗ semVal (gR c 5 (c + off i.succ)) 0)) : sProp 𝕄) := by
  iintro H
  iapply (BI.bigSep_fupd Finset.univ _)
  iapply (bigSep_with_persistent (R := recs D κ) fun i _ => close_i D κ c i)
  iexact H

theorem slot_any (c r : Dev nD) : (slot D c r fullShare : sProp 𝕄) ⊢ slotAny c r := by
  unfold slot slotAny
  iintro ⟨HQ, HO⟩
  isplitl [HQ]; · iexists _; iexact HQ
  iexists _; iexact HO

theorem slots_any (c : Dev nD) : (bigSep Finset.univ fun i : Fin 7 => slot D c (c + off i.succ) fullShare : sProp 𝕄)
    ⊢ bigSep Finset.univ fun i : Fin 7 => slotAny c (c + off i.succ) := bigSep_mono fun i _ => slot_any D c _

theorem leave (κ : GSem nD τ sig → ℕ) (c : Dev nD) :
    iprop(recs D κ ∗ runPost D c ∗ slotAny c (c + off 0))
      ⊢ (|={Set.univ}=> ((scratch c ∗ kvSrc D c) ∗ ((bigSep Finset.univ fun ι : Ix0 => semVal (gI c ι) 0) ∗ semVal (gB c) 0)
        ∗ winOut D c ∗ owesE c (Owed c [])) : sProp 𝕄) := by
  have z : Elt F .bf16 := D.wq c fun k => ⟨0, by fin_cases k <;> decide⟩
  rw [cut_src, split_Ix]
  unfold scratch runPost winOut
  rw [← all7_eq fun i => sentOut c i, ← all7_eq fun i => iprop(recvOut c i ∗ slot D c (c + off i.succ) fullShare), ← all8_eq fun j => srcAt D c j]
  unfold idle recvOut
  iintro ⟨#HR, ⟨⟨⟨K0, B0⟩, ⟨K1, B1⟩, Hsrc⟩, Hb, HSend, HRecv, HW, Howe⟩, Hs0⟩
  ihave HRecv := (unzip _ _ _) $$ HRecv
  icases HRecv with ⟨HRecv, Hs⟩
  ihave HsA := (slots_any D c) $$ Hs
  ihave HQO := (glue_slots z c) $$ [Hs0 HsA]
  · isplitl [Hs0]; · iexact Hs0
    iexact HsA
  icases HQO with ⟨HQ, HO⟩
  ihave HKV := (glue_bufs z c) $$ [B0 B1]
  · isplitl [B0]; · iexact B0
    iexact B1
  icases HKV with ⟨HK, HV⟩
  imod (close_s D κ c 0) $$ [K0] with ⟨V00, V10⟩
  · isplitr; · iexact HR
    iexact K0
  imod (close_s D κ c 1) $$ [K1] with ⟨V01, V11⟩
  · isplitr; · iexact HR
    iexact K1
  imod (close_one D κ (mem_gB c) 1 (done_bar D c)) $$ [Hb] with Vb
  · isplitr; · iexact HR
    iexact Hb
  imod (close_all D κ c) $$ [HSend HRecv] with V7
  · isplitr; · iexact HR
    iapply zip; isplitl [HSend]; · iexact HSend
    iexact HRecv
  imodintro
  isplitl [HQ HO HK HV Hsrc]
  · isplitr [Hsrc]
    · isplitl [HQ]; · iexact HQ
      isplitl [HO]; · iexact HO
      isplitl [HK]; · iexact HK
      iexact HV
    iexact Hsrc
  isplitl [V7 V00 V10 V01 V11 Vb]
  · isplitr [Vb]
    · isplitl [V7]; · iexact V7
      isplitl [V00 V01]
      · isplitl [V00]; · iexact V00
        iexact V01
      isplitl [V10]; · iexact V10
      iexact V11
    iexact Vb
  isplitl [HW]; · iexact HW
  iexact Howe

end Cert.KernelIdeal.Ring

end
-- ==== Proof.Region.lean ====
module

public import proofs.«01_k».proof.Proof.Leave
public import proofs.«01_k».proof.Proof.Gen.KernelIdeal.Frame
public import Idealize.ShloMosaic.Lib.Pipeline.RegionTalk
public import Idealize.ShloMosaic.Lib.Pipeline.ValueKit

/-! # The kernel's region

What the devices hold as the memory gives it, and the region of `@main` that runs the kernel: entered with the
launch's tokens and credit, left with every semaphore at zero and the result array holding each device's block. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

/-- One device's kernel, from all it holds to all it leaves. -/
theorem core_run (D : Data F) (κ : GSem nD τ sig → ℕ) (c : Dev nD) (Q : PUnit → sProp 𝕄) :
    iprop((ctx D κ ∗ (scratch (F := F) c ∗ kvSrc D c) ∗ (bigSep Finset.univ fun ι : Ix0 => at0 (gI c ι)) ∗ lin c ∗ creds c ∗ winIn D c
        ∗ owesE c (owed0 c))
      ∗ (((scratch c ∗ kvSrc D c) ∗ ((bigSep Finset.univ fun ι : Ix0 => semVal (gI c ι) 0) ∗ semVal (gB c) 0) ∗ winOut D c
        ∗ owesE c (Owed c [])) -∗ Q ⟨⟩))
      ⊢ WP c (.op .deviceId fun d => bodyC d) Q := by
  unfold WP
  rw [wp_deviceId]
  iintro ⟨⟨#HC, H⟩, Hk⟩
  ihave HE := (enter D c) $$ H
  icases HE with ⟨HP, Hs0⟩
  iapply (wp_body D κ c Q)
  isplitl [HP]
  · isplitr; · iexact HC
    iexact HP
  iintro HQ
  unfold WP
  rw [wp_ret]
  ihave HR := (show (ctx D κ : sProp 𝕄) ⊢ recs D κ from by unfold ctx; iintro ⟨H, -⟩; iexact H) $$ HC
  imod (leave D κ c) $$ [HR HQ Hs0] with HL
  · isplitl [HR]; · iexact HR
    isplitl [HQ]; · iexact HQ
    iexact Hs0
  imodintro
  iapply Hk
  iexact HL

variable (m : (ℓ : Loc nD τ sig) → Buf (Elt F) ℓ) (ρ : Dev nD → PrngReg)

/-- What the devices hold when the kernel starts. -/
def held0 : Data F where
  x c := iblk m c 0 t0_0
  wq c := iblk m c 1 t0_0
  wo c := iblk m c 2 t0_0
  k c := V m c main_v6
  v c := V m c main_v9

/-- A device's block of the result. -/
def res (D : Data F) (c : Dev nD) : S2x512x768.Idx → Elt F .f32 := outV (acc D c 0 7) (acc D c 1 7)

/-- The buffers before the region and after it. -/
def W0 (c : Dev nD) : Valuation τ sig (Elt F) := StableHlo.after hostOps0 (fun b => m (c, b))
def W1 (c : Dev nD) : Valuation τ sig (Elt F) := Function.update (W0 m c) (Proc.devRef .tc main_v10) (res (held0 m) c)

def kvRefs : Finset (DevRef τ sig) := {Proc.devRef .tc main_v6, Proc.devRef .tc main_v9}

theorem W1_v10 (c : Dev nD) : W1 m c (Proc.devRef .tc main_v10) = res (held0 m) c := Function.update_self ..
theorem W1_ne (c : Dev nD) (b : DevRef τ sig) (h : b ≠ Proc.devRef .tc main_v10) : W1 m c b = W0 m c b := Function.update_of_ne h ..

theorem held_pair (c : Dev nD) (W : Valuation τ sig (Elt F)) : (StableHlo.held (c : Thread nD τ) kvRefs W : sProp 𝕄)
    = iprop((((c : Thread nD τ).loc main_v6) ↦{fullShare} W (Proc.devRef .tc main_v6)) ∗ (((c : Thread nD τ).loc main_v9) ↦{fullShare} W (Proc.devRef .tc main_v9))) := by
  unfold StableHlo.held
  rw [bigSep_eq_bigSepL_of_eq [Proc.devRef .tc main_v6, Proc.devRef .tc main_v9] (by decide) (by decide)]
  rfl
theorem held_kv0 (c : Dev nD) : (StableHlo.held (c : Thread nD τ) kvRefs (W0 m c) : sProp 𝕄) = kvSrc (held0 m) c := held_pair c _
theorem held_kv1 (c : Dev nD) : (StableHlo.held (c : Thread nD τ) kvRefs (W1 m c) : sProp 𝕄) = kvSrc (held0 m) c := by
  rw [held_pair, W1_ne m c _ (by decide), W1_ne m c _ (by decide)]; rfl

/-- What the launch leaves with a device, and the same once its semaphores are open. -/
def Tk (D : Data F) (c : Dev nD) : sProp 𝕄 :=
  iprop((∃ κ, recs D κ ∗ (bigSep Finset.univ fun ι : Ix0 => openTok ER (gI c ι)) ∗ lin c) ∗ creds c)
def Xk (D : Data F) (c : Dev nD) : sProp 𝕄 :=
  iprop((∃ κ, ctx D κ ∗ (bigSep Finset.univ fun ι : Ix0 => at0 (gI c ι)) ∗ lin c) ∗ creds c ∗ bigSep (spare c) fun sm => semVal ((c : Thread nD τ), sm) 0)

theorem hopen (D : Data F) (c : Dev nD) :
    iprop(Tk D c ∗ Pipeline.ownSems0 osem c ∗ levAts L lv) ⊢ (|={Set.univ}=> Xk D c : sProp 𝕄) := by
  rw [own_sems]
  unfold Tk Xk ctx
  iintro ⟨⟨⟨%κ, #HR, Ho, Hl⟩, Hc⟩, ⟨Hv, Hs⟩, #HL⟩
  imod (open_all D κ c) $$ [Ho Hv] with Ha
  · isplitr; · iexact HR
    isplitl [Ho]; · iexact Ho
    iexact Hv
  imodintro
  isplitl [Ha Hl]
  · iexists κ
    isplitr
    · isplitr; · iexact HR
      iexact HL
    isplitl [Ha]; · iexact Ha
    iexact Hl
  isplitl [Hc]; · iexact Hc
  iexact Hs

/-- The region's invariant before its one point, and after. -/
def ΦIn (c : Dev nD) : sProp 𝕄 :=
  iprop(Pipeline.scopedRest spec0 c ∗ (∃ r, prngReg c r) ∗ StableHlo.held (c : Thread nD τ) kvRefs (W0 m c) ∗ Xk (held0 m) c)
def ΦOut (c : Dev nD) : sProp 𝕄 :=
  iprop(Pipeline.scopedRest spec0 c ∗ (∃ r, prngReg c r) ∗ StableHlo.held (c : Thread nD τ) kvRefs (W1 m c) ∗ Pipeline.ownSems0 osem c ∗ semVal (gB c) 0)

def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => res (held0 m) c
    | ⟨_ + 4, h⟩ => absurd h (Nat.not_lt.2 (Nat.le_add_left _ _))
  Φ t := if t.val = 0 then ΦIn m c else ΦOut m c
  q _ := fullShare
  owed t := if t.val = 0 then owed0 c else 0

theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl
theorem before_2 (c : Dev nD) (t : Fin cfg0.N) (d) : (dat m c).before 2 t d = iblk m c 2 t :=
  ((dat m c).before_in_eq_fetched 2 rfl (fun _ => rfl) (fun _ _ _ => rfl) (fun _ => rfl) t d).trans rfl

theorem owed_first (c : Dev nD) : (dat m c).owed t0_0.castSucc = owed0 c := rfl
theorem owed_last (c : Dev nD) : (dat m c).owed t0_0.succ = 0 := rfl

theorem owesAt_first (c : Dev nD) : ((dat m c).owesAt () t0_0.castSucc : sProp 𝕄) ⊢ owesE c (owed0 c) := by
  unfold Dat.owesAt Pipeline.owesWithin owesE; rw [owed_first]
  iintro ⟨%W, -, HO⟩; iexists W; iexact HO
theorem owesAt_last (c : Dev nD) : (owesE c (Owed c []) : sProp 𝕄) ⊢ (dat m c).owesAt () t0_0.succ := by
  unfold Dat.owesAt Pipeline.owesWithin Dat.bound owesE; rw [owed_last]
  iintro ⟨%W, HO⟩; iexists W; isplitr; · ipureintro; exact fun _ _ => Or.inl trivial
  iexact HO

theorem body_run (c : Dev nD) :
    iprop(ΦIn m c ∗ (dat m c).owesAt () t0_0.castSucc
      ∗ (∃ d, owns (c : Thread nD τ) mX fullShare ((dat m c).before 0 t0_0 d)) ∗ (∃ d, owns (c : Thread nD τ) mQ fullShare ((dat m c).before 1 t0_0 d))
      ∗ (∃ d, owns (c : Thread nD τ) mO fullShare ((dat m c).before 2 t0_0 d)) ∗ (∃ d, owns (c : Thread nD τ) mOut fullShare ((dat m c).before 3 t0_0 d)))
      ⊢ WP c (bodyAt0 (F := F) t0_0) fun _ => iprop(ΦOut m c ∗ (dat m c).owesAt () t0_0.succ
        ∗ owns (c : Thread nD τ) mX fullShare (iblk m c 0 t0_0) ∗ owns (c : Thread nD τ) mQ fullShare (iblk m c 1 t0_0)
        ∗ owns (c : Thread nD τ) mO fullShare (iblk m c 2 t0_0) ∗ owns (c : Thread nD τ) mOut fullShare (res (held0 m) c)) := by
  rw [body_canon]
  unfold ΦIn ΦOut Xk
  rw [held_kv0, held_kv1, own_sems, scopedRest0_eq]
  iintro ⟨⟨Hsc, Hp, Hkv, ⟨%κ, #HC, Ha, Hl⟩, Hcr, Hsp⟩, HO, ⟨%d0, H0⟩, ⟨%d1, H1⟩, ⟨%d2, H2⟩, ⟨%d3, H3⟩⟩
  ihave HO := (owesAt_first m c) $$ HO
  ihave H0 := (Entails.of_eq (congrArg (owns (c : Thread nD τ) mX fullShare) (before_0 m c t0_0 d0))) $$ H0
  ihave H1 := (Entails.of_eq (congrArg (owns (c : Thread nD τ) mQ fullShare) (before_1 m c t0_0 d1))) $$ H1
  ihave H2 := (Entails.of_eq (congrArg (owns (c : Thread nD τ) mO fullShare) (before_2 m c t0_0 d2))) $$ H2
  iapply (core_run (held0 m) κ c _)
  unfold scratch winIn winOut own
  isplitl [Hsc Hkv Ha Hl Hcr HO H0 H1 H2 H3]
  · isplitr; · iexact HC
    isplitl [Hsc Hkv]
    · isplitl [Hsc]; · iexact Hsc
      iexact Hkv
    isplitl [Ha]; · iexact Ha
    isplitl [Hl]; · iexact Hl
    isplitl [Hcr]; · iexact Hcr
    isplitr [HO]
    · isplitl [H0]; · iexact H0
      isplitl [H1 H2]
      · isplitl [H1]; · iexact H1
        iexact H2
      iexists _; iexact H3
    iexact HO
  iintro ⟨⟨Hsc, Hkv⟩, ⟨Hv, Hb⟩, ⟨H0, ⟨H1, H2⟩, H3⟩, HO⟩
  isplitl [Hsc Hp Hkv Hv Hsp Hb]
  · isplitl [Hsc]; · iexact Hsc
    isplitl [Hp]; · iexact Hp
    isplitl [Hkv]; · iexact Hkv
    isplitl [Hv Hsp]
    · isplitl [Hv]; · iexact Hv
      iexact Hsp
    iexact Hb
  isplitl [HO]; · iapply (owesAt_last m c); iexact HO
  isplitl [H0]; · iexact H0
  isplitl [H1]; · iexact H1
  isplitl [H2]; · iexact H2
  iexact H3

theorem body_row : defs₀ (F := F) .tc cfg0.body (cfg0.bodyArgs t0_0 (cfg0.slots t0_0)) = bodyAt0 t0_0 := rfl

set_option maxRecDepth 65536 in
theorem body0 (c : Dev nD) : BodyObligation (dat m c) (defs₀ (F := F)) 𝒱₀ () Set.univ := fun t => by
  obtain rfl := fin_N0 t
  rw [bigSep_W0, bigSep_W0, body_row]
  exact body_run m c

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that are no window's array. -/
def restRefs : Finset (DevRef τ sig) := ((StableHlo.tcRefs τ sig).filter fun b => ¬ b.isScoped) \ Pipeline.arrRefs (τ := τ) spec0

theorem arr_out (c : Dev nD) : (dat m c).arrAt 3 cfg0.N = res (held0 m) c :=
  (dat m c).arrAt_eq_of_after_last 3 t0_0 (by decide +kernel) _ fun j => rfl

theorem arr_end (c : Dev nD) (w : Fin 4) : (dat m c).arrAt w cfg0.N = W1 m c (Proc.devRef .tc (Pipeline.arrRef spec0 w)) := by
  fin_cases w
  · exact ((dat m c).arrAt_in 0 rfl _).trans (W1_ne m c (Proc.devRef .tc main_v1) (by decide)).symm
  · exact ((dat m c).arrAt_in 1 rfl _).trans (W1_ne m c (Proc.devRef .tc main_v2) (by decide)).symm
  · exact ((dat m c).arrAt_in 2 rfl _).trans (W1_ne m c (Proc.devRef .tc main_v3) (by decide)).symm
  · exact (arr_out m c).trans (W1_v10 m c).symm

theorem lv_stage (c : Dev nD) : ∀ (w : Fin 4) (s : Fin (spec0 w).nbuf), lv ((c : Thread nD τ), .dma ((spec0 w).sem s)) () = 0 := by
  revert c; decide

theorem owed0_pos (c : Dev nD) (g : GSem nD τ sig) (u : Unit) (h : 0 < owed0 c g u) :
    u ∈ L g ∧ 0 < lv g u := by
  unfold owed0 at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, rfl | rfl⟩ := owed_pos c _ g u h
      · exact ⟨by rw [L_tc]; exact Finset.mem_singleton_self _, by rw [lv_recv _ _ _ (.inl rfl)]; omega⟩
      · exact ⟨by rw [L_tc]; exact Finset.mem_singleton_self _, by rw [lv_recv _ _ _ (.inr rfl)]; omega⟩
    · rw [tallyAt_apply] at h
      split at h
      · next hg => rw [hg.1]; exact ⟨by rw [L_tc]; exact Finset.mem_singleton_self _, by rw [lv_bar]; decide⟩
      · exact absurd h (Nat.lt_irrefl 0)
  · rw [tallyAt_apply] at h
    split at h
    · next hg => rw [hg.1]; exact ⟨by rw [L_tc]; exact Finset.mem_singleton_self _, by rw [lv_bar]; decide⟩
    · exact absurd h (Nat.lt_irrefl 0)

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed0 c else 0 := rfl
  rw [e] at h
  split at h
  · exact owed0_pos c g i h
  · exact absurd h (Nat.lt_irrefl 0)

def Yk (c : Dev nD) : sProp 𝕄 := semVal (gB c) 0

set_option backward.isDefEq.respectTransparency.types false in
def reg : Pipeline.RegionSeg (Name := ℕ) (U := UU) (pcfgs (F := F)) adm (pdats m) () (defs₀ (F := F)) 𝒱₀ L lv 0 :=
  Pipeline.RegionSeg.ofTalk (pcfgs (F := F)) adm (pdats m) () defs₀ 𝒱₀ L lv 0 osem (by decide +kernel : Pipeline.OwnSemFacts spec0 osem)
    kvRefs restRefs (by decide) kit rfl (fun c => (body0 m c).loose)
    (fun _ => 0) owed0 (fun c => (zero_add _).symm) (fun _ => rfl) (fun _ => rfl) (fun _ w => by fin_cases w <;> rfl)
    (W0 m) (W1 m) (fun c b hb => W1_ne m c b (by rintro rfl; revert hb; decide))
    (Tk (held0 m)) Yk (Xk (held0 m)) Yk (hopen (held0 m)) (fun c => .rfl) (fun c => .rfl)
    (fun c => by iintro H; imodintro; iexact H)
    (fun _ => 0)
    ⟨fun c w s => by rw [L_tc]; exact Finset.mem_singleton_self _, fun c w s => (lv_stage c w s).le, fun c t g i h => cut m c t g i h⟩
    (fun _ => iprop(emp))
    (fun _ w => rfl) (fun c w => arr_end m c w)

end Cert.KernelIdeal.Ring

end
-- ==== Proof.Tokens.lean ====
module

public import proofs.«01_k».proof.Proof.Region

/-! # The launch's tokens and credit, dealt round the ring

Every duty's token starts with the device whose semaphore it is on; the device that pays the duty gets it. The
launch's credit on a semaphore is what the other devices owe it. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## The tokens -/

/-- A device's duties: its barrier's two, one on each of its ring semaphores, eight on each landing pair. -/
abbrev TI : Type := Bool ⊕ ((Fin 7 × Fin 4) ⊕ (Fin 8 × Fin 2))
def tSem (c : Dev nD) : TI → SemLoc sig × ℕ × Bool
  | .inl p => (.reg barS, 0, p)
  | .inr (.inl x) => (cellI c (.inl x), 0, false)
  | .inr (.inr (j, b)) => (.dma (semK b (bufJ j)), rndJ j, false)
theorem tSem_inj : ∀ c : Dev nD, Function.Injective (tSem c) := by decide +kernel

def tokI (x : Dev nD × TI) : GSem nD τ sig × ℕ × Bool := (((x.1 : Thread nD τ), (tSem x.1 x.2).1), (tSem x.1 x.2).2)
theorem tokI_inj : Function.Injective tokI := by
  rintro ⟨c, a⟩ ⟨d, b⟩ h
  obtain rfl : c = d := congrArg (fun t : GSem nD τ sig × ℕ × Bool => t.1.1.1) h
  exact congrArg (Prod.mk c) (tSem_inj c (Prod.ext (congrArg (fun t : GSem nD τ sig × ℕ × Bool => t.1.2) h)
    (congrArg (fun t : GSem nD τ sig × ℕ × Bool => t.2) h)))
def allToks : Finset (GSem nD τ sig × ℕ × Bool) := Finset.univ.image tokI

/-- The tokens on `c`'s semaphores. -/
def rTok (c : Dev nD) (i : Fin 7) : sProp 𝕄 :=
  iprop((dutyTok ER (gR c (sa i) (c + so i)) 0 false ∗ dutyTok ER (gR c (sb i) (c + so i)) 0 false)
    ∗ dutyTok ER (gR c 2 (c + off i.succ)) 0 false ∗ dutyTok ER (gR c 5 (c + off i.succ)) 0 false)
def toks (c : Dev nD) : sProp 𝕄 :=
  iprop((dutyTok ER (gB c) 0 false ∗ dutyTok ER (gB c) 0 true) ∗ (bigSep Finset.univ fun i : Fin 7 => rTok c i) ∗ kTok c)

theorem toks_eq : bigSep allToks (fun x => (dutyTok ER x.1 x.2.1 x.2.2 : sProp 𝕄)) = bigSep Finset.univ fun c : Dev nD => toks c := by
  have e4 (Ψ : Fin 4 → sProp 𝕄) : bigSep Finset.univ Ψ = iprop((Ψ 0 ∗ Ψ 1) ∗ Ψ 2 ∗ Ψ 3) :=
    (bigSep_univ_eq_bigSepL [(0 : Fin 4), 1, 2, 3] (by decide) (by decide) Ψ).trans (BI.sep_assoc'.antisymm BI.sep_assoc)
  have eB (Ψ : Bool → sProp 𝕄) : bigSep Finset.univ Ψ = iprop(Ψ false ∗ Ψ true) :=
    bigSep_univ_eq_bigSepL [false, true] (by decide) (by decide) Ψ
  unfold allToks
  rw [bigSep_image_of_injOn (s := Finset.univ) tokI_inj.injOn, bigSep_univ_prod]
  refine bigSep_congr fun c _ => ?_
  rw [bigSep_univ_sum, bigSep_univ_sum, bigSep_univ_prod, bigSep_univ_prod, eB, bigSep_congr fun i _ => e4 _, bigSep_congr fun j _ => two _]
  rfl

def prvE : Dev nD ≃ Dev nD := ⟨prv, nxt, by decide, by decide⟩
def nxtE : Dev nD ≃ Dev nD := ⟨nxt, prv, by decide, by decide⟩
def ddE : Dev nD × Fin 7 ≃ Dev nD × Fin 7 :=
  ⟨fun x => (x.1 + dd x.2, x.2), fun x => (x.1 - dd x.2, x.2), fun x => Prod.ext (add_sub_cancel_right ..) rfl, fun x => Prod.ext (sub_add_cancel ..) rfl⟩

/-- What device `c` holds for its step `i`, moved to the device that sends it. -/
theorem round (Ψ : Dev nD → Fin 7 → sProp 𝕄) :
    (bigSep Finset.univ fun c : Dev nD => bigSep Finset.univ fun i : Fin 7 => Ψ c i)
      = bigSep Finset.univ fun c : Dev nD => bigSep Finset.univ fun i : Fin 7 => Ψ (c + dd i) i := by
  rw [← bigSep_univ_prod fun x : Dev nD × Fin 7 => Ψ x.1 x.2, bigSep_univ_equiv ddE, bigSep_univ_prod]
  rfl

/-- The tokens device `c` pays with. -/
def pays (c : Dev nD) : sProp 𝕄 :=
  iprop((dutyTok ER (gB (prv c)) 0 false ∗ dutyTok ER (gB (nxt c)) 0 true) ∗ (bigSep Finset.univ fun i : Fin 7 => sTok c i) ∗ kTok c)

theorem rTok_around : (bigSep Finset.univ fun c : Dev nD => bigSep Finset.univ fun i : Fin 7 => (rTok c i : sProp 𝕄))
    ⊢ bigSep Finset.univ fun c : Dev nD => bigSep Finset.univ fun i : Fin 7 => sTok c i := by
  have h (c : Dev nD) : (bigSep Finset.univ fun i : Fin 7 => (rTok c i : sProp 𝕄))
      = iprop((bigSep Finset.univ fun i : Fin 7 => iprop(dutyTok ER (gR c (sa i) (c + so i)) 0 false ∗ dutyTok ER (gR c (sb i) (c + so i)) 0 false))
        ∗ bigSep Finset.univ fun i : Fin 7 => iprop(dutyTok ER (gR c 2 (c + off i.succ)) 0 false ∗ dutyTok ER (gR c 5 (c + off i.succ)) 0 false)) := by
    rw [← bigSep_sep']
    rfl
  rw [bigSep_congr fun c _ => h c, bigSep_sep',
    round fun c i => iprop(dutyTok ER (gR c 2 (c + off i.succ)) 0 false ∗ dutyTok ER (gR c 5 (c + off i.succ)) 0 false), ← bigSep_sep']
  refine Entails.of_eq (bigSep_congr fun c _ => ?_)
  rw [← bigSep_sep']
  refine bigSep_congr fun i _ => ?_
  rw [chunk_eq]
  rfl

theorem toks_around : (bigSep Finset.univ fun c : Dev nD => (toks c : sProp 𝕄)) ⊢ bigSep Finset.univ fun c : Dev nD => pays c := by
  unfold toks pays
  rw [bigSep_sep', bigSep_sep', bigSep_sep', bigSep_sep', bigSep_sep', bigSep_sep',
    bigSep_univ_equiv prvE fun c : Dev nD => (dutyTok ER (gB c) 0 false : sProp 𝕄),
    bigSep_univ_equiv nxtE fun c : Dev nD => (dutyTok ER (gB c) 0 true : sProp 𝕄)]
  iintro ⟨HB, HR, HK⟩
  isplitl [HB]; · iexact HB
  isplitl [HR]; · iapply rTok_around; iexact HR
  iexact HK

/-! ## The credit -/

theorem gR_ne_bar (c d : Dev nD) (a : Fin 6) (r : Dev nD) : gR c a r ≠ gB d := fun h => by
  exact absurd (congrArg Prod.snd h) (by show (SemLoc.dma (semR a r) : SemLoc sig) ≠ .reg barS; exact nofun)

theorem semR_inj : Function.Injective fun x : Fin 6 × Dev nD => semR x.1 x.2 := by decide +kernel

theorem gR_iff (c d : Dev nD) (a b : Fin 6) (r s : Dev nD) : gR c a r = gR d b s ↔ c = d ∧ a = b ∧ r = s := by
  constructor
  · intro h
    have h1 : c = d := congrArg (fun g : GSem nD τ sig => g.1.1) h
    have h2 : semR a r = semR b s := by
      have := congrArg Prod.snd h
      exact SemLoc.dma.inj this
    have h3 := semR_inj (a₁ := (a, r)) (a₂ := (b, s)) h2
    exact ⟨h1, congrArg Prod.fst h3, congrArg Prod.snd h3⟩
  · rintro ⟨rfl, rfl, rfl⟩; rfl

theorem gB_iff (c d : Dev nD) : gB c = gB d ↔ c = d := ⟨fun h => congrArg (fun g : GSem nD τ sig => g.1.1) h, fun h => by rw [h]⟩

theorem Owed_at (d : Dev nD) (g : GSem nD τ sig) : owed0 d g () = (∑ i : Fin 7, (tO d i g () + tQ d i g ()))
    + (if g = gB (nxt d) then 1 else 0) + (if g = gB (prv d) then 1 else 0) := by
  unfold owed0 Owed Owed Owed Owed Owed Owed Owed Owed
  simp only [Pi.add_apply, Finsupp.add_apply, Pi.zero_apply, Finsupp.zero_apply, tallyAt_apply, and_true, Fin.sum_univ_seven]
  omega

theorem count2 : ∀ (c : Dev nD) (i : Fin 7),
    (Finset.univ.filter fun x : Dev nD × Fin 7 => c = x.1 + dd x.2 ∧ c + off i.succ = x.1 + so x.2).card = 1 := by decide +kernel

theorem sum_gR (a : Fin 6) (n : ℕ) (c : Dev nD) (i : Fin 7) :
    (∑ d : Dev nD, ∑ k : Fin 7, if gR c a (c + off i.succ) = gR (d + dd k) a (d + so k) then n else 0) = n := by
  rw [← Fintype.sum_prod_type' fun d k => if gR c a (c + off i.succ) = gR (d + dd k) a (d + so k) then n else 0]
  have h (x : Dev nD × Fin 7) : (if gR c a (c + off i.succ) = gR (x.1 + dd x.2) a (x.1 + so x.2) then n else 0)
      = if c = x.1 + dd x.2 ∧ c + off i.succ = x.1 + so x.2 then n else 0 :=
    if_congr ((gR_iff ..).trans (by simp)) rfl rfl
  rw [Finset.sum_congr rfl fun x _ => h x, ← Finset.sum_filter, Finset.sum_const, count2, one_smul]

theorem sum_Q (c : Dev nD) (i : Fin 7) : (∑ d : Dev nD, owed0 d (gR c 2 (c + off i.succ)) ()) = NQ := by
  refine Eq.trans (Finset.sum_congr rfl fun d _ => ?_) (sum_gR 2 NQ c i)
  rw [Owed_at, if_neg (gR_ne_bar _ _ _ _), if_neg (gR_ne_bar _ _ _ _), Nat.add_zero]
  refine Finset.sum_congr rfl fun k _ => ?_
  unfold tO tQ
  rw [tallyAt_apply, tallyAt_apply, if_neg (fun h => absurd ((gR_iff ..).mp h.1).2.1 (by decide)), Nat.zero_add]
  simp only [and_true]
theorem sum_O (c : Dev nD) (i : Fin 7) : (∑ d : Dev nD, owed0 d (gR c 5 (c + off i.succ)) ()) = NO := by
  refine Eq.trans (Finset.sum_congr rfl fun d _ => ?_) (sum_gR 5 NO c i)
  rw [Owed_at, if_neg (gR_ne_bar _ _ _ _), if_neg (gR_ne_bar _ _ _ _), Nat.add_zero]
  refine Finset.sum_congr rfl fun k _ => ?_
  unfold tO tQ
  rw [tallyAt_apply, tallyAt_apply, if_neg (t := NQ) (fun h => absurd ((gR_iff ..).mp h.1).2.1 (by decide)), Nat.add_zero]
  simp only [and_true]
theorem count_bar : ∀ c : Dev nD, (∑ d : Dev nD, ((if c = nxt d then 1 else 0) + if c = prv d then 1 else 0 : ℕ)) = 2 := by decide +kernel
theorem sum_B (c : Dev nD) : (∑ d : Dev nD, owed0 d (gB c) ()) = 2 := by
  refine Eq.trans (Finset.sum_congr rfl fun d _ => ?_) (count_bar c)
  rw [Owed_at, Finset.sum_eq_zero fun k _ => ?_, Nat.zero_add]
  · simp only [gB_iff]
  · unfold tO tQ
    rw [tallyAt_apply, tallyAt_apply, if_neg (fun h => gR_ne_bar _ _ _ _ h.1.symm), if_neg (fun h => gR_ne_bar _ _ _ _ h.1.symm)]
    rfl

theorem launch_at (g : GSem nD τ sig) (n : ℕ) (h : (∑ d : Dev nD, owed0 d g ()) = n) :
    tallyOn g (launchCredit (Pipeline.owing owed0) 0 g) = (tallyAt g () n : CellTallies nD τ sig Unit) := by
  unfold tallyAt; refine congrArg _ (Finsupp.ext fun u => ?_); cases u
  rw [Pipeline.launchCredit_owing, Finsupp.single_eq_same, h]

/-- The semaphores a device is owed on. -/
def credI (c : Dev nD) : Unit ⊕ (Fin 7 × Fin 2) → SemLoc sig
  | .inl _ => .reg barS
  | .inr (i, 0) => .dma (semR 2 (c + off i.succ))
  | .inr (i, 1) => .dma (semR 5 (c + off i.succ))
theorem credI_inj : ∀ c : Dev nD, Function.Injective (credI c) := by decide +kernel

theorem creds_intro (c : Dev nD) : (Pipeline.launchCred owed0 c : sProp 𝕄) ⊢ creds c := by
  have e1 (Ψ : Unit → sProp 𝕄) : bigSep Finset.univ Ψ = Ψ () := BI.bigSep_singleton
  have e : (bigSep (Finset.univ.image (credI c)) fun sm : SemLoc sig =>
      cred (tallyOn ((c.tc : Thread nD τ), sm) (launchCredit (Pipeline.owing owed0) 0 ((c.tc : Thread nD τ), sm))) : sProp 𝕄) = creds c := by
    rw [bigSep_image_of_injOn (s := Finset.univ) (credI_inj c).injOn, bigSep_univ_sum, e1, bigSep_univ_prod, bigSep_congr fun i _ => two _]
    unfold creds cred2
    have hB := launch_at (gB c) 2 (sum_B c)
    have hQ (i : Fin 7) := launch_at _ _ (sum_Q c i)
    have hO (i : Fin 7) := launch_at _ _ (sum_O c i)
    rw [← hB]
    have hR : (bigSep Finset.univ fun i : Fin 7 => iprop(cred (tallyAt (gR c 2 (c + off i.succ)) () NQ) ∗ cred (tallyAt (gR c 5 (c + off i.succ)) () NO)) : sProp 𝕄)
        = bigSep Finset.univ fun i : Fin 7 => iprop(cred (tallyOn (gR c 2 (c + off i.succ)) (launchCredit (Pipeline.owing owed0) 0 (gR c 2 (c + off i.succ))))
          ∗ cred (tallyOn (gR c 5 (c + off i.succ)) (launchCredit (Pipeline.owing owed0) 0 (gR c 5 (c + off i.succ))))) :=
      bigSep_congr fun i _ => by rw [hQ, hO]
    rw [hR]
    rfl
  rw [← e]
  exact BI.bigSep_subset (Finset.subset_univ _)

end Cert.KernelIdeal.Ring

end
-- ==== Proof.Launch.lean ====
module

public import proofs.«01_k».proof.Proof.Tokens

/-! # The launch

From any memory, every fair run of `@main` on the eight devices ends; the arguments are as they were, each device's
result is what its kernel computed from what the devices hold, and every semaphore of the machine is at zero. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (gB c) 0 := by
  unfold unscopedSems0
  rw [show (Finset.univ.filter fun sm : SemLoc sig => ¬ sm.isScoped .tc) = {SemLoc.reg barS} from by decide +kernel, BI.bigSep_singleton]

def V₀ (c : Dev nD) : Valuation τ sig (Elt F) := fun b => m (c, b)

/-- What rides beside the buffers up to the region: the tokens and credit, the register, what the core owes. -/
def R (c : Dev nD) : sProp 𝕄 :=
  iprop(Tk (held0 m) c ∗ (∃ r, prngReg c r) ∗ ∃ W, owes (c : Thread nD τ) (owed0 c) W)

theorem host_sub : ∀ op ∈ (hostOps0 : List (HloOp τ sig (Elt F))), op.bufs ⊆ bufs := fun op h =>
  Pipeline.sub_ucRefs op (List.forall_iff_forall_mem.mp hostOps0_sub op h)
theorem host_fresh : ∀ op ∈ (hostOps0 : List (HloOp τ sig (Elt F))), op.fresh = ∅ := fun op h =>
  List.forall_iff_forall_mem.mp hostOps0_fresh op h

def seg0 : Pipeline.HostSeg (Name := ℕ) (U := UU) (pcfgs (F := F)) (defs₀ (F := F)) 𝒱₀ L lv :=
  Pipeline.HostSeg.ofOps _ _ _ _ _ bufs hostOps0 host_sub host_fresh (V₀ m) (R m)

def segs : List (Pipeline.Seg (pcfgs (F := F)) adm (pdats m) () (defs₀ (F := F)) 𝒱₀ L lv) := [.host (seg0 m), .region (reg m)]

theorem main_eq (c : Dev nD) : main (F := F) c = Pipeline.Seg.run (segs m) :=
  main_segs adm (pdats m) () 𝒱₀ L lv (seg0 m) (reg m) rfl c

/-! ## Between the segments -/

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) restRefs W) :=
  StableHlo.held_sub_split _ (by decide) W

theorem reg_pre (c : Dev nD) : iprop(StableHlo.held (c : Thread nD τ) bufs (W0 m c) ∗ R m c) ⊢ (reg m).pre c := by
  show _ ⊢ iprop(StableHlo.held (c.tc : Thread nD τ) (Pipeline.arrRefs (τ := τ) spec0) (W0 m c) ∗ (∃ r, prngReg c r)
    ∗ (StableHlo.held (c.tc : Thread nD τ) restRefs (W0 m c) ∗ emp) ∗ Tk (held0 m) c ∗ ∃ Wd, owes (c : Thread nD τ) (0 + owed0 c) Wd)
  rw [bufs_split, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ (c : Dev nD) : sProp 𝕄 :=
  iprop((StableHlo.held (c : Thread nD τ) (Pipeline.arrRefs (τ := τ) spec0) (W1 m c) ∗ StableHlo.held (c : Thread nD τ) restRefs (W1 m c)) ∗ semVal (gB c) 0)

theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (W1 m c) ∗ (∃ r, prngReg c r)
    ∗ (StableHlo.held (c.tc : Thread nD τ) restRefs (W1 m c) ∗ emp) ∗ Yk c ∗ ∃ Wd, owes (c : Thread nD τ) (0 : CellTallies nD τ sig Unit) Wd) ⊢ _
  unfold Tₙ Yk
  iintro ⟨Ha, -, ⟨Hr, -⟩, Hb, HO⟩
  isplitr [HO]
  · isplitl [Ha Hr]
    · isplitl [Ha]; · iexact Ha
      iexact Hr
    iexact Hb
  iexact HO

/-! ## The launch's deal -/

theorem cellI_ne_bar : ∀ (d : Dev nD) (ι : Ix0), cellI d ι ≠ .reg barS := by decide +kernel

theorem disjoint_cells : Disjoint barCells scCells := by
  rw [Finset.disjoint_left]
  rintro g h₁ h₂
  obtain ⟨c, -, rfl⟩ := Finset.mem_image.mp h₁
  obtain ⟨⟨d, ι⟩, -, h⟩ := Finset.mem_image.mp h₂
  exact cellI_ne_bar d ι (congrArg Prod.snd h)

theorem gB_inj : Function.Injective gB := fun _ _ h => congrArg (fun g : GSem nD τ sig => g.1.1) h
theorem gI_inj : Function.Injective fun x : Dev nD × Ix0 => gI x.1 x.2 := by
  rintro ⟨c, a⟩ ⟨d, b⟩ h
  obtain rfl : c = d := congrArg (fun g : GSem nD τ sig => g.1.1) h
  exact congrArg (Prod.mk c) (cellI_inj c (congrArg Prod.snd h))

def u₀ : UU :=
  (initOf (Pipeline.cells (Pipeline.pin (pcfgs (F := F)) adm) cellOf_inj) (Pipeline.launchToks (Pipeline.pin (pcfgs (F := F)) adm) cellOf_inj),
    launchOf barCells scCells allToks)

def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have hne : bigSep (Finset.univ.erase c₀) (onDev c₀ X) = (BI.emp : sProp 𝕄) :=
    (bigSep_congr (Ψ := fun _ => (BI.emp : sProp 𝕄)) fun c hc => if_neg (Finset.ne_of_mem_erase hc)).trans (BI.bigSep_emp_const _)
  rw [bigSep_univ_at _ c₀, hne, show onDev c₀ X c₀ = X from if_pos rfl]
  exact BI.equiv_iff.mp sep_emp

def G : Dev nD → sProp 𝕄 := onDev 0 (BI.own (ER (launchOf barCells scCells allToks)))

/-- What every device may consult. -/
def records (D : Data F) (κ : GSem nD τ sig → ℕ) : sProp 𝕄 := iprop(recs D κ ∗ bigSep Finset.univ fun c : Dev nD => reached ER (gB c) 0)
instance records_persistent (D : Data F) (κ : GSem nD τ sig → ℕ) : BI.Persistent (records D κ) := by unfold records; infer_instance

theorem reached_at (c : Dev nD) : (bigSep Finset.univ fun c : Dev nD => (reached ER (gB c) 0 : sProp 𝕄)) ⊢ reached ER (gB c) 0 := bigSep_elim (Finset.mem_univ c)

/-- What is device `c`'s alone. -/
def mine (c : Dev nD) : sProp 𝕄 :=
  iprop(atPos ER (gB c) 0 ∅ 0 ∗ (bigSep Finset.univ fun ι : Ix0 => openTok ER (gI c ι)) ∗ pays c)

theorem Tk_intro (D : Data F) (κ : GSem nD τ sig → ℕ) (c : Dev nD) : iprop(records D κ ∗ mine c ∗ creds c) ⊢ (Tk D c : sProp 𝕄) := by
  unfold records mine pays Tk lin bTok
  iintro ⟨⟨#HR, #Hr⟩, ⟨Ha, Ho, ⟨TP, TN⟩, HS, HK⟩, Hc⟩
  isplitr [Hc]
  · iexists κ
    isplitr; · iexact HR
    isplitl [Ho]; · iexact Ho
    isplitl [Ha]; · iexact Ha
    isplitl [TP TN]
    · isplitl [TP]
      · isplitl [TP]; · iexact TP
        iapply (reached_at (F := F) (prv c)); iexact Hr
      isplitl [TN]; · iexact TN
      iapply (reached_at (F := F) (nxt c)); iexact Hr
    isplitl [HS]; · iexact HS
    iexact HK
  iexact Hc

def T₀ (c : Dev nD) : sProp 𝕄 := iprop(StableHlo.held (c : Thread nD τ) bufs (V₀ m c) ∗ R m c)

def bundle (c : Dev nD) : sProp 𝕄 :=
  iprop(StableHlo.held (c : Thread nD τ) bufs (V₀ m c) ∗ creds c ∗ owes (c : Thread nD τ) (owed0 c) ∅ ∗ ∃ r, prngReg c r)

theorem T₀_intro (κ : GSem nD τ sig → ℕ) (c : Dev nD) : iprop(records (held0 m) κ ∗ (mine c ∗ bundle m c)) ⊢ T₀ m c := by
  unfold bundle T₀ R
  iintro ⟨#HR, Hl, Hh, Hc, HO, Hp⟩
  isplitl [Hh]; · iexact Hh
  isplitl [Hl Hc]
  · iapply (Tk_intro (held0 m) κ c)
    isplitr; · iexact HR
    isplitl [Hl]; · iexact Hl
    iexact Hc
  isplitl [Hp]; · iexact Hp
  iexists ∅; iexact HO

def launched (c : Dev nD) : sProp 𝕄 :=
  iprop(unscopedBufs c (fun b => m ((c : Thread nD τ).loc b)) ∗ unscopedSems0 c
          ∗ owes (c : Thread nD τ) (owed0 c) ∅ ∗ Pipeline.launchCred owed0 c ∗ prngReg c (ρ c) ∗ G c)

theorem core_init (c : Dev nD) : launched m ρ c ⊢ (iprop(bundle m c ∗ (semVal (gB c) 0 ∗ G c)) : sProp 𝕄) := by
  unfold launched
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds_intro (F := F) c) $$ Hcr
  isplitl [Hh HO Hc Hp]
  · isplitl [Hh]; · iexact Hh
    isplitl [Hc]; · iexact Hc
    isplitl [HO]; · iexact HO
    iexists (ρ c); iexact Hp
  isplitl [Hus]; · iexact Hus
  iexact HG

theorem on_bars (Φ : GSem nD τ sig → sProp 𝕄) : bigSep barCells Φ = bigSep Finset.univ fun c : Dev nD => Φ (gB c) :=
  bigSep_image_of_injOn (s := Finset.univ) gB_inj.injOn Φ
theorem on_sc (Φ : GSem nD τ sig → sProp 𝕄) : bigSep scCells Φ = bigSep Finset.univ fun c : Dev nD => bigSep Finset.univ fun ι : Ix0 => Φ (gI c ι) := by
  unfold scCells
  rw [bigSep_image_of_injOn (s := Finset.univ) gI_inj.injOn Φ, bigSep_univ_prod]

theorem init_all : iprop((bigSep Finset.univ fun c : Dev nD => launched m ρ c) ∗ levAts L lv) ⊢ (|={Set.univ}=> bigSep Finset.univ (T₀ m) : sProp 𝕄) := by
  have hc : (bigSep Finset.univ fun c : Dev nD => launched m ρ c) ⊢ (bigSep Finset.univ fun c : Dev nD => iprop(bundle m c ∗ (semVal (gB c) 0 ∗ G c)) : sProp 𝕄) :=
    bigSep_mono fun c _ => core_init m ρ c
  iintro ⟨H, -⟩
  ihave H' := hc $$ H
  ihave H2 := (unzip _ _ _) $$ H'; icases H2 with ⟨HB, H3⟩
  ihave H4 := (unzip _ _ _) $$ H3; icases H4 with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  imod (Rounds.fund_launch ER (Rd (held0 m)) disjoint_cells (fun g _ h => h) allToks) $$ [Hv Hu] with ⟨%κ, -, #Hinv, #Hr, Hat, Hopen, Htok⟩
  · isplitl [Hv]
    · iapply (Entails.of_eq (on_bars (F := F) fun g => semVal g 0).symm) $$ Hv
    · iexact Hu
  imodintro
  iapply (bigSep_with_persistent (R := records (held0 m) κ) (Φ := fun c => iprop(mine c ∗ bundle m c)) fun c _ => T₀_intro m κ c)
  isplitr
  · unfold records recs
    isplitr; · iexact Hinv
    iapply (Entails.of_eq (on_bars (F := F) fun g => reached ER g 0)); iexact Hr
  iapply zip
  isplitr [HB]
  · unfold mine
    iapply zip; isplitl [Hat]; · iapply (Entails.of_eq (on_bars (F := F) fun g => atPos ER g 0 ∅ 0)) $$ Hat
    iapply zip; isplitl [Hopen]; · iapply (Entails.of_eq (on_sc (F := F) fun g => openTok ER g)) $$ Hopen
    iapply (toks_around (F := F))
    iapply (Entails.of_eq (toks_eq (F := F))) $$ Htok
  · iexact HB

/-! ## The run -/

theorem held_arr (c : Dev nD) (W : Valuation τ sig (Elt F)) : (StableHlo.held (c : Thread nD τ) (Pipeline.arrRefs (τ := τ) spec0) W : sProp 𝕄)
    ⊢ (((c : Thread nD τ).loc main_v10) ↦{fullShare} W (Proc.devRef .tc main_v10)) := by
  unfold StableHlo.held
  exact bigSep_elim (Φ := fun b : DevRef τ sig => (((c : Dev nD), b) ↦{fullShare} W b : sProp 𝕄)) (i := Proc.devRef .tc main_v10) (by decide)

theorem held_args (c : Dev nD) (W : Valuation τ sig (Elt F)) : (StableHlo.held (c : Thread nD τ) restRefs W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4))) := by
  have e : (StableHlo.held (c : Thread nD τ) {Proc.devRef .tc main_arg0, Proc.devRef .tc main_arg1, Proc.devRef .tc main_arg2, Proc.devRef .tc main_arg3, Proc.devRef .tc main_arg4} W : sProp 𝕄)
      = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4))) := by
    unfold StableHlo.held
    rw [bigSep_eq_bigSepL_of_eq [Proc.devRef .tc main_arg0, Proc.devRef .tc main_arg1, Proc.devRef .tc main_arg2, Proc.devRef .tc main_arg3, Proc.devRef .tc main_arg4] (by decide) (by decide)]
    rfl
  rw [← e]
  unfold StableHlo.held
  exact BI.bigSep_subset (by decide)

theorem unscoped_eq : ∀ sm : SemLoc sig, sm.isScoped .tc = false → sm = .reg barS := by decide +kernel

/-- What a run ends in, on device `c`. -/
def Ends (c : Dev nD) (mem : (ℓ : Loc nD τ sig) → Buf (Elt F) ℓ) : Prop :=
  mem ((c : Thread nD τ).loc main_v10) = res (held0 m) c
    ∧ mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)

set_option backward.isDefEq.respectTransparency.types false in
theorem run_main : θ_run defs (onTc (τ := τ) (main (F := F))) ⟨m, fun _ => 0, ρ⟩
    (fun r => (∀ c : Dev nD, Ends m c r.2.mem) ∧ r.2.sem = fun _ => 0) :=
  Pipeline.θ_run_regions_kit_sems (pcfgs (F := F)) adm (pdats m) () cellOf_inj EP (defs₀ (F := F)) 𝒱₀ L lv m ρ main (segs m)
    (fun c Q => by rw [main_eq m c])
    (by simp only [segs, Pipeline.Seg.pipes_host, Pipeline.Seg.pipes_region, Pipeline.Seg.pipes_nil]; decide)
    (O₀ := owed0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init_all m ρ)
    (QY := fun c s => (s.mem ((Memref.whole main_v10).view.loc (c : Thread nD τ)) = W1 m c (Proc.devRef .tc main_v10)
      ∧ s.mem ((Memref.whole main_arg0).view.loc (c : Thread nD τ)) = W1 m c (Proc.devRef .tc main_arg0)
      ∧ s.mem ((Memref.whole main_arg1).view.loc (c : Thread nD τ)) = W1 m c (Proc.devRef .tc main_arg1)
      ∧ s.mem ((Memref.whole main_arg2).view.loc (c : Thread nD τ)) = W1 m c (Proc.devRef .tc main_arg2)
      ∧ s.mem ((Memref.whole main_arg3).view.loc (c : Thread nD τ)) = W1 m c (Proc.devRef .tc main_arg3)
      ∧ s.mem ((Memref.whole main_arg4).view.loc (c : Thread nD τ)) = W1 m c (Proc.devRef .tc main_arg4))
      ∧ s.sem (gB c) = 0)
    (hfin := fun c s' => by
      unfold Tₙ
      iintro ⟨⟨⟨Ha, Hr⟩, Hb0⟩, HSI⟩
      ihave Ho := (held_arr c (W1 m c)) $$ Ha
      ihave Hg := (held_args c (W1 m c)) $$ Hr
      icases Hg with ⟨H0, H1, H2, H3, H4⟩
      icombine HSI Ho gives %ho
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ ho, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨ho, h0, h1, h2, h3, h4⟩, -⟩ := h c
        rw [W1_v10] at ho
        rw [W1_ne m c _ (by decide)] at h0 h1 h2 h3 h4
        exact ⟨ho, h0.trans (V_main_arg0 m c), h1.trans (V_main_arg1 m c), h2.trans (V_main_arg2 m c), h3.trans (V_main_arg3 m c), h4.trans (V_main_arg4 m c)⟩,
      sem_eq_zero hs fun c sm hsm => by
        obtain rfl := unscoped_eq sm hsm
        exact (h c).2⟩)

end Cert.KernelIdeal.Ring

end
-- ==== Proof.Frames.lean ====
module

public import proofs.«01_k».proof.Defs
public import proofs.«01_k».proof.Proof.Gen.Kernel
public import proofs.«01_k».proof.Proof.Launch

/-! # The frames of the kernel

Both programs are one text but for the mask's constant, which the idealized one names. The run of `Launch` holds over
any float values and any reading of that name, so each frame is an instance of it. -/

@[expose] public section

noncomputable section

namespace Cert.Proof

open Idealize.ShloMosaic Idealize.SL.Sem

/-- The bits of the mask's constant, whatever its name. -/
local instance named_bits : Named Bits where
  named _ _ {φ} b := Scalar.ofBits φ b

/-- The idealized kernel runs, leaves its arguments and every counter at zero. -/
theorem frame_kernelIdeal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The two programs' bodies are one. -/
theorem row (l : Cert.Kernel.Λ₀.Label) (a : Cert.Kernel.Λ₀.Args l) :
    Cert.Kernel.defs₀ (F := Bits) .tc l a = Cert.KernelIdeal.defs₀ (F := Bits) .tc l a :=
  match l, a with
  | 0, (_, _) => rfl
  | ⟨_ + 1, h⟩, _ => absurd h (Nat.not_lt.2 (Nat.le_add_left _ _))

theorem table₀ : Cert.Kernel.defs₀ (F := Bits) = Cert.KernelIdeal.defs₀ (F := Bits) := by
  funext p
  cases p
  · exact funext fun l => funext fun a => row l a
  · rfl
  · rfl

theorem table : Cert.Kernel.defs (F := Bits) = Cert.KernelIdeal.defs (F := Bits) :=
  congrArg (Pipeline.defs (Cert.KernelIdeal.pcfgs (F := Bits))) table₀

/-- The kernel runs, leaves its arguments and every counter at zero. -/
theorem frame_kernel : Cert.quiescent_Kernel := fun m ρ _ => by
  rw [table]
  exact (θ_run (Cert.KernelIdeal.defs (F := Bits)) _ _).mono (fun _ h => ⟨fun c => (h.1 c).2, h.2⟩)
    (Cert.KernelIdeal.Ring.run_main (F := Bits) m ρ)

end Cert.Proof

end
-- ==== Proof.BiasValue.lean ====
module

public import proofs.«01_k».proof.Proof.Program
public import Idealize.ShloMosaic.Lib.Pointwise

/-! # The kernel's mask

The additive bias the kernel computes from the row and column numbers: nothing where the two blocks of 64 agree modulo
four, and the extended reals' bottom elsewhere. -/

@[expose] public section

noncomputable section

namespace Cert.KernelIdeal.Ring

open Idealize.ShloMosaic Idealize.ShloMosaic.TcCoe
open Cert.KernelIdeal.Gen

/-- Row `i` lies in block `i / 64`. -/
theorem row_block (i j : Fin 512) : k0_pay1 (ix2 i j) = BitVec.ofNat 32 (i.val / 64) := by
  pointwise [k0_pay1]
  revert i
  decide +kernel

/-- Column `j` lies in block `j / 64`. -/
theorem col_block (i j : Fin 512) :
    k0_pay4 (iota .tc S512x512 32 [1] iota_S512x512_d1_w32) 64#32 k0_pay2 k0_pay3 (ix2 i j) = BitVec.ofNat 32 (j.val / 64) := by
  pointwise [k0_pay4, k0_pay2, k0_pay3]
  revert j
  decide +kernel

/-- Below eight, a block's number modulo four: the rows' remainder and the columns'. -/
theorem row_rem (A : IVec S512x512 32) (x : S512x512.Idx) (a : Fin 8) (h : A x = BitVec.ofNat 32 a.val) :
    k0_pay5 A x = BitVec.ofNat 32 (a.val % 4) := by
  pointwise [k0_pay5]
  rw [h]
  clear h
  revert a
  decide +kernel

/-- The mask on words: the same block modulo four, the columns' remainder spelt out, or the same block on the first
device (`w`), which the former covers. -/
theorem choose (w : BitVec 1) (a b : Fin 8) :
    IntOp.ori
      (IntOp.cmpi .eq (BitVec.ofNat 32 (a.val % 4))
        (Scalar.select
          (IntOp.andi
            (IntOp.xori (IntOp.cmpi .slt (IntOp.remsi .vector (BitVec.ofNat 32 b.val) (Scalar.select (Scalar.cmpi .eq 4#32 0#32) 1#32 4#32)) 0#32)
              (Scalar.cmpi .slt (Scalar.select (Scalar.cmpi .eq 4#32 0#32) 1#32 4#32) 0#32))
            (IntOp.cmpi .ne (IntOp.remsi .vector (BitVec.ofNat 32 b.val) (Scalar.select (Scalar.cmpi .eq 4#32 0#32) 1#32 4#32)) 0#32))
          (IntOp.addi (IntOp.remsi .vector (BitVec.ofNat 32 b.val) (Scalar.select (Scalar.cmpi .eq 4#32 0#32) 1#32 4#32))
            (Scalar.select (Scalar.cmpi .eq 4#32 0#32) 1#32 4#32))
          (IntOp.remsi .vector (BitVec.ofNat 32 b.val) (Scalar.select (Scalar.cmpi .eq 4#32 0#32) 1#32 4#32))))
      (IntOp.andi (IntOp.cmpi .eq (BitVec.ofNat 32 a.val) (BitVec.ofNat 32 b.val)) w)
      = BitVec.ofBool (decide (a.val % 4 = b.val % 4)) := by
  revert w a b
  decide +kernel

/-- The bias at row `i` and column `j`. -/
theorem bias_at (d : Dev nD) (i j : Fin 512) :
    bias (F := Ideal) d (ix2 i j) = if decide (i.val / 64 % 4 = j.val / 64 % 4) then (0 : EReal) else ⊥ := by
  have ha : i.val / 64 < 8 := by omega
  have hb : j.val / 64 < 8 := by omega
  have h5 := row_rem k0_pay1 (ix2 i j) ⟨i.val / 64, ha⟩ (row_block i j)
  have h1 := row_block i j
  have h4 := col_block i j
  unfold bias k0_pay9
  pointwise [k0_pay6, k0_pay7, k0_pay8]
  rw [h5, h1, h4, IdealRules.named_const.ideal_named_scalar _ _ _ _ rfl]
  have hc := choose (Scalar.cmpi .eq (Scalar.remsi (Scalar.divsi d.word 1#32) 8#32) 0#32) ⟨i.val / 64, ha⟩ ⟨j.val / 64, hb⟩
  refine (congrArg (fun w => Scalar.select w (0 : EReal) ⊥) hc).trans ?_
  cases decide (i.val / 64 % 4 = j.val / 64 % 4) <;> rfl

end Cert.KernelIdeal.Ring
-- ==== Proof.HeadValue.lean ====
module

public import proofs.«01_k».proof.Proof.Program
public import Idealize.ShloMosaic.Lib.Pointwise

/-! # A chunk's contribution, element by element -/

@[expose] public section

noncomputable section

namespace Cert.KernelIdeal.Ring

open Idealize.ShloMosaic Idealize.ShloMosaic.TcCoe
open Cert.KernelIdeal.Gen

/-- The eighth by which the scores are scaled. -/
theorem eighth : Ideal.ofBits .f32 0x3E000000#32 = ((1 / 8 : ℝ) : EReal) := by
  simp [Ideal.ofBits, Ideal.ieee, -EReal.coe_mul]
  norm_num

/-- The score of query row `i` against key row `j` under the head whose 64 columns begin at `n`. -/
def score (q k : S512x512.Idx → EReal) (n : ℕ) (hn : n + 64 ≤ 512) (i j : Fin 512) : EReal :=
  (∑ d : Fin 64, q (ix2 i ⟨n + d.val, by omega⟩) * k (ix2 j ⟨n + d.val, by omega⟩)) * ((1 / 8 : ℝ) : EReal)

/-- One head's result at row `i`, column `d` of the head. -/
theorem head_at (bias : FVec Ideal S512x512 .f32) (q k v : FVec Ideal S512x512 .bf16) (n : ℕ) (hn : n + 64 ≤ 512)
    (h : S512x512.Slices ![0, n] S512x64) (i : Fin 512) (d : Fin 64) :
    head bias q k v ![0, n] h (ix2 i d)
      = Ideal.div (∑ j, Ideal.exp (score q k n hn i j + bias (ix2 i j)) * v (ix2 j ⟨n + d.val, by omega⟩))
          (∑ j, Ideal.exp (score q k n hn i j + bias (ix2 i j))) := by
  pointwise [head, score, eighth]

/-- The queries at row `i`, column `e` of the chunk. -/
theorem queries_at (x : Vec Ideal S1x512x768 .bf16) (wq : FVec Ideal S768x512 .bf16) (i e : Fin 512) :
    queries x wq (ix2 i e) = ∑ d : Fin 768, x (ix3 0 i d) * wq (ix2 d e) := by
  pointwise [queries]

theorem block_le (e : Fin 512) : e.val / 64 * 64 + 64 ≤ 512 := by omega

/-- Column `e` of the eight heads side by side lies in head `e / 64`. -/
def ctxAt (bias : S512x512.Idx → EReal) (q k v : S512x512.Idx → EReal) (i e : Fin 512) : EReal :=
  Ideal.div (∑ j, Ideal.exp (score q k _ (block_le e) i j + bias (ix2 i j)) * v (ix2 j e))
    (∑ j, Ideal.exp (score q k _ (block_le e) i j + bias (ix2 i j)))

/-- A head's column is the context's. -/
theorem head_ctx (bias : FVec Ideal S512x512 .f32) (q k v : FVec Ideal S512x512 .bf16) (n : ℕ)
    (h : S512x512.Slices ![0, n] S512x64) (i e : Fin 512) (t : Fin 64) (he : e.val / 64 * 64 = n) (ht : n + t.val = e.val) :
    head bias q k v ![0, n] h (ix2 i t) = ctxAt bias q k v i e := by
  subst he
  rw [head_at bias q k v _ (block_le e) h]
  simp only [ht]
  rfl

/-- A chunk's contribution at row `i`, column `n` of the result. -/
theorem heads_at (bias : FVec Ideal S512x512 .f32) (q k v : FVec Ideal S512x512 .bf16) (wo : FVec Ideal S512x768 .bf16)
    (i : Fin 512) (n : Fin 768) : heads bias q k v wo (ix2 i n) = ∑ e : Fin 512, ctxAt bias q k v i e * wo (ix2 e n) := by
  pointwise [heads]
  refine Finset.sum_congr rfl fun e _ => congrArg (· * _) ?_
  have he := e.isLt
  split_ifs
  all_goals exact head_ctx bias q k v _ _ i e _ (by omega) (by simp only; omega)

theorem contrib_at (bias : FVec Ideal S512x512 .f32) (x : Vec Ideal S1x512x768 .bf16) (wq : FVec Ideal S768x512 .bf16)
    (wo : FVec Ideal S512x768 .bf16) (k v : Vec Ideal S1x1x512x512 .bf16) (i : Fin 512) (n : Fin 768) :
    contrib bias x wq wo k v (ix2 i n)
      = ∑ e : Fin 512, ctxAt bias (fun y => ∑ d : Fin 768, x (ix3 0 (y 0) d) * wq (ix2 d (y 1)))
          (fun y => k (ix4 0 0 (y 0) (y 1))) (fun y => v (ix4 0 0 (y 0) (y 1))) i e * wo (ix2 e n) := by
  unfold contrib
  rw [heads_at]
  unfold ctxAt score
  pointwise [queries_at]

end Cert.KernelIdeal.Ring
-- ==== Proof.HeldValue.lean ====
module

public import proofs.«01_k».proof.Proof.Region
public import Idealize.ShloMosaic.Lib.Pointwise
public import Idealize.ShloMosaic.Lib.StableHlo.ReadAt

/-! # What the devices hold, in terms of the launch's arguments

The host lines before the region change formats, which are all one at the extended reals, and cut K's and V's heads into
eight chunks of eight. -/

@[expose] public section

noncomputable section

namespace Cert.KernelIdeal.Ring

open Idealize.ShloMosaic Idealize.ShloMosaic.TcCoe
open Cert.KernelIdeal.Gen

variable (m : (ℓ : Loc nD τ sig) → Buf (Elt Ideal) ℓ)

/-- The launch's arguments on a device. -/
def aX (c : Dev nD) : S2x512x768.Idx → EReal := m ((c : Thread nD τ).loc main_arg0)
@[inherit_doc aX] def aQ (c : Dev nD) : S768x512.Idx → EReal := m ((c : Thread nD τ).loc main_arg1)
@[inherit_doc aX] def aK (c : Dev nD) : S2x512x64x64.Idx → EReal := m ((c : Thread nD τ).loc main_arg2)
@[inherit_doc aX] def aV (c : Dev nD) : S2x512x64x64.Idx → EReal := m ((c : Thread nD τ).loc main_arg3)
@[inherit_doc aX] def aO (c : Dev nD) : S512x768.Idx → EReal := m ((c : Thread nD τ).loc main_arg4)

theorem v1_at (c : Dev nD) (j : S2x512x768.Idx) : (V m c main_v1 : S2x512x768.Idx → EReal) j = aX m c j := by
  unfold V aX
  after_reads_at

theorem v2_at (c : Dev nD) (j : S768x512.Idx) : (V m c main_v2 : S768x512.Idx → EReal) j = aQ m c j := by
  unfold V aQ
  after_reads_at

theorem v3_at (c : Dev nD) (j : S512x768.Idx) : (V m c main_v3 : S512x768.Idx → EReal) j = aO m c j := by
  unfold V aO
  after_reads_at

theorem v6_at (c : Dev nD) (r : Fin 8) (b : Fin 2) (j e : Fin 512) : (V m c main_v6 : S8x2x512x512.Idx → EReal) (ix4 r b j e)
    = aK m c (ix4 b j ⟨r.val * 8 + e.val / 64, by omega⟩ ⟨e.val % 64, by omega⟩) := by
  unfold V aK
  after_reads_at

theorem v9_at (c : Dev nD) (r : Fin 8) (b : Fin 2) (j e : Fin 512) : (V m c main_v9 : S8x2x512x512.Idx → EReal) (ix4 r b j e)
    = aV m c (ix4 b j ⟨r.val * 8 + e.val / 64, by omega⟩ ⟨e.val % 64, by omega⟩) := by
  unfold V aV
  after_reads_at

theorem held_x (c : Dev nD) (j : S2x512x768.Idx) : ((held0 m).x c : S2x512x768.Idx → EReal) j = aX m c j := by
  rw [← v1_at]
  have h : win0_0.index t0_0 = ![0, 0, 0] := by decide +kernel
  show iblk m c 0 t0_0 j = V m c main_v1 j
  blk_ext [iblk, h]

theorem held_q (c : Dev nD) (j : S768x512.Idx) : ((held0 m).wq c : S768x512.Idx → EReal) j = aQ m c j := by
  rw [← v2_at]
  have h : win0_1.index t0_0 = ![0, 0] := by decide +kernel
  show iblk m c 1 t0_0 j = V m c main_v2 j
  blk_ext [iblk, h]

theorem held_o (c : Dev nD) (j : S512x768.Idx) : ((held0 m).wo c : S512x768.Idx → EReal) j = aO m c j := by
  rw [← v3_at]
  have h : win0_2.index t0_0 = ![0, 0] := by decide +kernel
  show iblk m c 2 t0_0 j = V m c main_v3 j
  blk_ext [iblk, h]

/-- Chunk `r` of K or V lies at `r` of the eight. -/
theorem chunk_at (r : Fin 8) (b : Fin 2) (j e : Fin 512) : (chunk mK r).view.emb (ix3 b j e) = (ix4 r b j e : S8x2x512x512.Idx) := by
  refine (congrArg (Rect.emb (Rect.unit (s := S8x2x512x512) ![r.val, 0, 0, 0] S1x2x512x512.size (inbC r)))
    (ValueIdx.reshapeEquiv_ix3_1abc (a := 2) (b := 512) (c := 512) (Shape.Squeezes.numel_eq squeezes_S1x2x512x512_S2x512x512) b j e)).trans ?_
  funext a
  fin_cases a <;> refine Fin.ext ?_
  · show r.val + 1 * 0 = r.val; omega
  · show 0 + 1 * b.val = b.val; omega
  · show 0 + 1 * j.val = j.val; omega
  · show 0 + 1 * e.val = e.val; omega

theorem held_k (c : Dev nD) (r : Fin 8) (b : Fin 2) (j e : Fin 512) : ((held0 m).kc c r : S2x512x512.Idx → EReal) (ix3 b j e)
    = aK m c (ix4 b j ⟨r.val * 8 + e.val / 64, by omega⟩ ⟨e.val % 64, by omega⟩) :=
  (congrArg (V m c main_v6 : S8x2x512x512.Idx → EReal) (chunk_at r b j e)).trans (v6_at m c r b j e)

theorem held_v (c : Dev nD) (r : Fin 8) (b : Fin 2) (j e : Fin 512) : ((held0 m).vc c r : S2x512x512.Idx → EReal) (ix3 b j e)
    = aV m c (ix4 b j ⟨r.val * 8 + e.val / 64, by omega⟩ ⟨e.val % 64, by omega⟩) :=
  (congrArg (V m c main_v9 : S8x2x512x512.Idx → EReal) (chunk_at r b j e)).trans (v9_at m c r b j e)

end Cert.KernelIdeal.Ring
-- ==== Proof.KernelValue.lean ====
module

public import proofs.«01_k».proof.Proof.BiasValue
public import proofs.«01_k».proof.Proof.HeadValue
public import proofs.«01_k».proof.Proof.HeldValue

/-! # The kernel's result, element by element

A device adds its eight steps' contributions; the steps visit every chunk once, so the order of the ring is forgotten. -/

@[expose] public section

noncomputable section

namespace Cert.KernelIdeal.Ring

open Idealize.ShloMosaic Idealize.ShloMosaic.TcCoe
open Cert.KernelIdeal.Gen

variable (m : (ℓ : Loc nD τ sig) → Buf (Elt Ideal) ℓ)

/-- The contribution of chunk `r` to row `i` of batch `b` on device `c`, at column `n` of the result. -/
def part (c : Dev nD) (b : Fin 2) (i : Fin 512) (n : Fin 768) (r : Fin 8) : EReal :=
  ∑ e : Fin 512, ctxAt (fun y => if decide ((y 0).val / 64 % 4 = (y 1).val / 64 % 4) then (0 : EReal) else ⊥)
    (fun y => ∑ d : Fin 768, aX m c (ix3 b (y 0) d) * aQ m r (ix2 d (y 1)))
    (fun y => aK m c (ix4 b (y 0) ⟨r.val * 8 + (y 1).val / 64, by have : (y 1).val < 512 := (y 1).isLt; omega⟩ ⟨(y 1).val % 64, by omega⟩))
    (fun y => aV m c (ix4 b (y 0) ⟨r.val * 8 + (y 1).val / 64, by have : (y 1).val < 512 := (y 1).isLt; omega⟩ ⟨(y 1).val % 64, by omega⟩))
    i e * aO m r (ix2 e n)

theorem xb_at (X : S2x512x768.Idx → EReal) (b : Fin 2) (i : Fin 512) (d : Fin 768) : xb (F := Ideal) X b (ix3 0 i d) = X (ix3 b i d) := by
  unfold xb
  rw [at_rX]
  exact congrArg X (ix3_eq_valueIdx b i d).symm

theorem kb_at (C : S2x512x512.Idx → EReal) (b : Fin 2) (j e : Fin 512) : kb (F := Ideal) C b (ix4 0 0 j e) = C (ix3 b j e) :=
  congrArg C (ix3_eq_valueIdx b j e).symm

theorem bias_fun (c : Dev nD) :
    bias (F := Ideal) c = fun y => if decide ((y 0).val / 64 % 4 = (y 1).val / 64 % 4) then (0 : EReal) else ⊥ := by
  funext y
  obtain ⟨i, j, rfl⟩ : ∃ i j : Fin 512, y = ix2 i j := ⟨y 0, y 1, by idx_ext⟩
  exact bias_at c i j

/-- A step's contribution is its chunk's. -/
theorem cont_at (c : Dev nD) (b : Fin 2) (j : Fin 8) (i : Fin 512) (n : Fin 768) :
    cont (held0 m) c b j (ix2 i n) = part m c b i n (c + off j) := by
  unfold cont part
  rw [contrib_at]
  simp only [held_o, bias_fun]
  have hq : (fun y : S512x512.Idx => ∑ d : Fin 768, xb ((held0 m).x c) b (ix3 0 (y 0) d) * (held0 m).wq (c + off j) (ix2 d (y 1)))
      = fun y => ∑ d : Fin 768, aX m c (ix3 b (y 0) d) * aQ m (c + off j) (ix2 d (y 1)) :=
    funext fun y => Finset.sum_congr rfl fun d _ => congrArg₂ (fun s t : EReal => s * t)
      ((xb_at ((held0 m).x c) b (y 0) d).trans (held_x m c _)) (held_q m (c + off j) _)
  have hk : (fun y : S512x512.Idx => kb ((held0 m).kc c (c + off j)) b (ix4 0 0 (y 0) (y 1))) = fun y => aK m c (ix4 b (y 0)
      ⟨(c + off j).val * 8 + (y 1).val / 64, by have : (y 1).val < 512 := (y 1).isLt; have : (c + off j).val < 8 := (c + off j).isLt; omega⟩
      ⟨(y 1).val % 64, by omega⟩) :=
    funext fun y => (kb_at ((held0 m).kc c (c + off j)) b (y 0) (y 1)).trans (held_k m c (c + off j) b (y 0) (y 1))
  have hv : (fun y : S512x512.Idx => kb ((held0 m).vc c (c + off j)) b (ix4 0 0 (y 0) (y 1))) = fun y => aV m c (ix4 b (y 0)
      ⟨(c + off j).val * 8 + (y 1).val / 64, by have : (y 1).val < 512 := (y 1).isLt; have : (c + off j).val < 8 := (c + off j).isLt; omega⟩
      ⟨(y 1).val % 64, by omega⟩) :=
    funext fun y => (kb_at ((held0 m).vc c (c + off j)) b (y 0) (y 1)).trans (held_v m c (c + off j) b (y 0) (y 1))
  refine Finset.sum_congr rfl fun e _ => congrArg (fun t : EReal => t * _) ?_
  exact (congrArg (fun q => ctxAt _ q _ _ i e) hq).trans ((congrArg (fun k => ctxAt _ _ k _ i e) hk).trans (congrArg (fun v => ctxAt _ _ _ v i e) hv))

/-- The steps visit every chunk once. -/
theorem visit : ∀ c : Dev nD, Function.Bijective fun j : Fin 8 => c + off j := by decide

theorem acc_at (c : Dev nD) (b : Fin 2) (i : Fin 512) (n : Fin 768) :
    acc (held0 m) c b 7 (ix2 i n) = ∑ r : Fin 8, part m c b i n r := by
  rw [← (visit c).sum_comp (part m c b i n), Fin.sum_univ_eight]
  simp only [← cont_at]
  rfl

theorem res_at (c : Dev nD) (b : Fin 2) (i : Fin 512) (n : Fin 768) :
    (res (held0 m) c : S2x512x768.Idx → EReal) (ix3 b i n) = ∑ r : Fin 8, part m c b i n r := by
  rw [← acc_at]
  show (if b.val = 0 then acc (held0 m) c 0 7 else acc (held0 m) c 1 7) (ValueIdx.ix2 i n) = _
  rw [← ix2_eq_valueIdx]
  fin_cases b <;> rfl

end Cert.KernelIdeal.Ring
-- ==== Proof.RefTerm.lean ====
module

public import proofs.«01_k».proof.Proof.Gen.ReferenceIdeal.Run

/-! # The reference's result, in stages

The reference's composed term is long because a value read twice stands in it twice. Here are its stages, each over the one
before, and the equation of the whole with the composed term. -/

@[expose] public section

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- Division by 64 rounded down, as the host spells it. -/
def quot {s : Shape} (h : S_.BroadcastsInDim s ![]) (x : IVec s 32) : IVec s 32 :=
  select (andi (cmpi .ne (signi x) (broadcastInDim s ![] h (signi (id (constantI S_ 32 64#32)))))
      (cmpi .ne (Host.remsi x (broadcastInDim s ![] h (id (constantI S_ 32 64#32)))) (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- The divisor four, as the host guards it against zero. -/
def four : IVec S_ 32 := select (cmpi .eq (id (constantI S_ 32 4#32)) (constantI S_ 32 0#32)) (constantI S_ 32 1#32) (id (constantI S_ 32 4#32))

/-- The remainder modulo four with the divisor's sign, as the host spells it. -/
def rem {s : Shape} (h : S_.BroadcastsInDim s ![]) (x : IVec s 32) : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four))
    (Host.remsi x (broadcastInDim s ![] h four))

/-- The rows' blocks as a column, and the keys' as a row. -/
def qblk : IVec S4096x1 32 := broadcastInDim S4096x1 ![0] bcast_S4096_S4096x1_0 (quot bcast_S_S4096 (iotaInDim S4096 32 0))
@[inherit_doc qblk] def kblk : IVec S1x512 32 := broadcastInDim S1x512 ![1] bcast_S512_S1x512_1 (quot bcast_S_S512 (iotaInDim S512 32 0))

/-- Which keys a row may read. -/
def mask : IVec S4096x512 1 :=
  ori (cmpi .eq (broadcastInDim S4096x512 ![0, 1] bcast_S4096x1_S4096x512_0_1 qblk) (broadcastInDim S4096x512 ![0, 1] bcast_S1x512_S4096x512_0_1 kblk))
    (cmpi .eq (broadcastInDim S4096x512 ![0, 1] bcast_S1x512_S4096x512_0_1 (rem bcast_S_S1x512 kblk))
      (broadcastInDim S4096x512 ![0, 1] bcast_S4096x1_S4096x512_0_1 (rem bcast_S_S4096x1 qblk)))

/-- The rows that may read some key. -/
def keep : IVec S1x1x4096x1 1 :=
  broadcastInDim S1x1x4096x1 ![2] bcast_S4096_S1x1x4096x1_2 (Host.reduce IntOp.ori mask (constantI S_ 1 0#1) reducesTo_S4096x512_S4096_d1 h_S_)

/-- The scaled scores. -/
def scores (x : FVec F S2x4096x768 .f32) (wq : FVec F S768x4096 .f32) (k : FVec F S2x512x64x64 .f32) : FVec F S2x64x4096x512 .f32 :=
  mulf (Host.dotGeneral dot_S2x4096x64x64_S2x512x64x64_S2x64x4096x512_3_3_1_1_02_02 none
      (shapeCast S2x4096x64x64 (Host.dotGeneral dot_S2x4096x768_S768x4096_S2x4096x4096_2_0_01_1_n_n none x wq : FVec F S2x4096x4096 .f32) shapeCasts_S2x4096x4096_S2x4096x64x64) k)
    (broadcastInDim S2x64x4096x512 ![] bcast_S_S2x64x4096x512 (constant S_ .f32 0x3E000000#32))

/-- The scores with the masked ones at the bottom. -/
def masked (s : FVec F S2x64x4096x512 .f32) : FVec F S2x64x4096x512 .f32 :=
  select (broadcastInDim S2x64x4096x512 ![0, 1, 2, 3] bcast_S1x1x4096x512_S2x64x4096x512_0_1_2_3
      (broadcastInDim S1x1x4096x512 ![2, 3] bcast_S4096x512_S1x1x4096x512_2_3 mask)) s
    (broadcastInDim S2x64x4096x512 ![] bcast_S_S2x64x4096x512 (id (constant S_ .f32 0xFF800000#32)))

/-- Their exponentials, each row's greatest score subtracted. -/
def expo (t : FVec F S2x64x4096x512 .f32) : FVec F S2x64x4096x512 .f32 :=
  Host.exp (subf t (broadcastInDim S2x64x4096x512 ![0, 1, 2, 3] bcast_S2x64x4096x1_S2x64x4096x512_0_1_2_3
    (broadcastInDim S2x64x4096x1 ![0, 1, 2] bcast_S2x64x4096_S2x64x4096x1_0_1_2
      (Host.reduce FloatOps.maximumf t (constant S_ .f32 0xFF800000#32) reducesTo_S2x64x4096x512_S2x64x4096_d3 h_S_))))

/-- The weights: each row's exponentials over their sum. -/
def weights (w : FVec F S2x64x4096x512 .f32) : FVec F S2x64x4096x512 .f32 :=
  select (broadcastInDim S2x64x4096x512 ![0, 1, 2, 3] bcast_S1x1x4096x1_S2x64x4096x512_0_1_2_3 keep)
    (Host.divf w (broadcastInDim S2x64x4096x512 ![0, 1, 2, 3] bcast_S2x64x4096x1_S2x64x4096x512_0_1_2_3
      (select (broadcastInDim S2x64x4096x1 ![0, 1, 2, 3] bcast_S1x1x4096x1_S2x64x4096x1_0_1_2_3 keep)
        (broadcastInDim S2x64x4096x1 ![0, 1, 2] bcast_S2x64x4096_S2x64x4096x1_0_1_2
          (Host.reduceAdd w (constant S_ .f32 0x00000000#32) reducesTo_S2x64x4096x512_S2x64x4096_d3 h_S_))
        (broadcastInDim S2x64x4096x1 ![] bcast_S_S2x64x4096x1 (id (constant S_ .f32 0x3F800000#32))))))
    (broadcastInDim S2x64x4096x512 ![] bcast_S_S2x64x4096x512 (id (constant S_ .f32 0x00000000#32)))

/-- The values under the weights, and their projection. -/
def project (w : FVec F S2x64x4096x512 .f32) (v : FVec F S2x512x64x64 .f32) (wo : FVec F S4096x768 .f32) : FVec F S2x4096x768 .f32 :=
  Host.dotGeneral dot_S2x4096x4096_S4096x768_S2x4096x768_2_0_01_1_n_n none
    (shapeCast S2x4096x4096 (transpose S2x4096x64x64 [0, 3, 1, 2]
      (Host.dotGeneral dot_S2x512x64x64_S2x64x4096x512_S2x64x64x4096_1_3_3_2_02_01 none v w : FVec F S2x64x64x4096 .f32)
      transposes_S2x64x64x4096_S2x4096x64x64_0_3_1_2) shapeCasts_S2x4096x64x64_S2x4096x4096) wo

/-- The whole. -/
def out (x : FVec F S2x4096x768 .f32) (wq : FVec F S768x4096 .f32) (k v : FVec F S2x512x64x64 .f32) (wo : FVec F S4096x768 .f32) :
    FVec F S2x4096x768 .f32 := project (weights (expo (masked (scores x wq k)))) v wo

theorem res_eq (m : (ℓ : Loc nD τ sig) → Buf (Elt F) ℓ) (c : Dev nD) :
    Value.res_main_v39 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v39
  rfl

end Cert.ReferenceIdeal.Stage
-- ==== Proof.RefMask.lean ====
module

public import proofs.«01_k».proof.Proof.RefTerm
public import Idealize.ShloMosaic.Lib.Pointwise

/-! # The reference's mask

Row `i` reads key `j` when their blocks of 64 agree modulo four (the same block is a case of it); every row reads some key. -/

@[expose] public section

noncomputable section

namespace Cert.ReferenceIdeal.Stage

open Cert.ReferenceIdeal Cert.ReferenceIdeal.Gen Idealize.ShloMosaic Idealize.ShloMosaic.TcCoe

theorem qblk_at (i : Fin 4096) : qblk (ix2 i 0) = BitVec.ofNat 32 (i.val / 64) := by
  pointwise [qblk, quot]
  revert i
  decide +kernel

theorem kblk_at (j : Fin 512) : kblk (ix2 0 j) = BitVec.ofNat 32 (j.val / 64) := by
  pointwise [kblk, quot]
  revert j
  decide +kernel

/-- The remainder modulo four of a word below 64. -/
theorem rem_at {s : Shape} (h : S_.BroadcastsInDim s ![]) (x : IVec s 32) (y : s.Idx) (a : Fin 64) (hx : x y = BitVec.ofNat 32 a.val) :
    rem h x y = BitVec.ofNat 32 (a.val % 4) := by
  pointwise [rem, four]
  rw [hx]
  clear hx
  revert a
  decide +kernel

/-- The mask on words. -/
theorem mask_word (a : Fin 64) (b : Fin 8) :
    IntOp.ori (IntOp.cmpi .eq (BitVec.ofNat 32 a.val) (BitVec.ofNat 32 b.val))
      (IntOp.cmpi .eq (BitVec.ofNat 32 (b.val % 4)) (BitVec.ofNat 32 (a.val % 4))) = BitVec.ofBool (decide (a.val % 4 = b.val % 4)) := by
  revert a b
  decide +kernel

theorem mask_at (i : Fin 4096) (j : Fin 512) : mask (ix2 i j) = BitVec.ofBool (decide (i.val / 64 % 4 = j.val / 64 % 4)) := by
  have ha : i.val / 64 < 64 := by omega
  have hb : j.val / 64 < 8 := by omega
  have h1 := rem_at bcast_S_S4096x1 qblk (ix2 i 0) ⟨i.val / 64, ha⟩ (qblk_at i)
  have h2 := rem_at bcast_S_S1x512 kblk (ix2 0 j) ⟨j.val / 64, by omega⟩ (kblk_at j)
  unfold mask
  pointwise
  rw [h1, h2, qblk_at, kblk_at]
  exact mask_word ⟨i.val / 64, ha⟩ ⟨j.val / 64, hb⟩

/-- A disjunction with a true member is true. -/
theorem fold_or {ι : Type} (s : Finset ι) (f : ι → BitVec 1) (a : ι) (ha : a ∈ s) (h : f a = 1#1) : s.fold IntOp.ori 0#1 f = 1#1 := by
  classical
  rw [← Finset.insert_erase ha, Finset.fold_insert (Finset.notMem_erase a s), h]
  generalize Finset.fold IntOp.ori 0#1 f (s.erase a) = w
  revert w
  decide

theorem keep_at (i : Fin 4096) : keep (ix4 0 0 i 0) = 1#1 := by
  unfold keep
  pointwise
  refine fold_or _ _ ⟨i.val / 64 % 4 * 64, by omega⟩ (Finset.mem_univ _) ?_
  rw [mask_at]
  have : i.val / 64 % 4 = i.val / 64 % 4 * 64 / 64 % 4 := by omega
  simp only [← this]
  decide

end Cert.ReferenceIdeal.Stage
-- ==== Proof.RefValue.lean ====
module

public import proofs.«01_k».proof.Proof.RefMask

/-! # The reference, element by element -/

@[expose] public section

noncomputable section

namespace Cert.ReferenceIdeal.Stage

open Cert.ReferenceIdeal Cert.ReferenceIdeal.Gen Idealize.ShloMosaic Idealize.ShloMosaic.TcCoe

/-- The pattern of negative infinity is the bottom. -/
theorem ninf : Ideal.ofBits .f32 0xFF800000#32 = ⊥ := by
  simp [Ideal.ofBits, Ideal.ieee]

/-- The eighth by which the scores are scaled. -/
theorem eighth : Ideal.ofBits .f32 0x3E000000#32 = ((1 / 8 : ℝ) : EReal) := by
  simp [Ideal.ofBits, Ideal.ieee, -EReal.coe_mul]
  norm_num

/-- The score of query row `i` against key row `j` under head `h`. -/
def score (x : S2x4096x768.Idx → EReal) (wq : S768x4096.Idx → EReal) (k : S2x512x64x64.Idx → EReal)
    (b : Fin 2) (h : Fin 64) (i : Fin 4096) (j : Fin 512) : EReal :=
  (∑ d : Fin 64, (∑ c : Fin 768, x (ix3 b i c) * wq (ix2 c ⟨h.val * 64 + d.val, by omega⟩)) * k (ix4 b j h d)) * ((1 / 8 : ℝ) : EReal)

theorem scores_at (x : FVec Ideal S2x4096x768 .f32) (wq : FVec Ideal S768x4096 .f32) (k : FVec Ideal S2x512x64x64 .f32)
    (b : Fin 2) (h : Fin 64) (i : Fin 4096) (j : Fin 512) : scores x wq k (ix4 b h i j) = score x wq k b h i j := by
  unfold scores score
  pointwise [eighth]

theorem masked_at (s : FVec Ideal S2x64x4096x512 .f32) (b : Fin 2) (h : Fin 64) (i : Fin 4096) (j : Fin 512) :
    masked s (ix4 b h i j) = if decide (i.val / 64 % 4 = j.val / 64 % 4) then s (ix4 b h i j) else ⊥ := by
  unfold masked
  pointwise [mask_at, id_eq, ninf, decide_eq_true_eq]

theorem expo_at (t : FVec Ideal S2x64x4096x512 .f32) (b : Fin 2) (h : Fin 64) (i : Fin 4096) (j : Fin 512) :
    expo t (ix4 b h i j) = Ideal.exp (t (ix4 b h i j) - Finset.univ.fold max ⊥ fun j => t (ix4 b h i j)) := by
  unfold expo
  pointwise [ninf]

theorem weights_at (w : FVec Ideal S2x64x4096x512 .f32) (b : Fin 2) (h : Fin 64) (i : Fin 4096) (j : Fin 512) :
    weights w (ix4 b h i j) = Ideal.div (w (ix4 b h i j)) (∑ j : Fin 512, w (ix4 b h i j)) := by
  unfold weights
  pointwise [keep_at]

theorem project_at (w : FVec Ideal S2x64x4096x512 .f32) (v : FVec Ideal S2x512x64x64 .f32) (wo : FVec Ideal S4096x768 .f32)
    (b : Fin 2) (i : Fin 4096) (n : Fin 768) :
    project w v wo (ix3 b i n) = ∑ e : Fin 4096,
      (∑ j : Fin 512, v (ix4 b j ⟨e.val / 64, by omega⟩ ⟨e.val % 64, by omega⟩) * w (ix4 b ⟨e.val / 64, by omega⟩ i j)) * wo (ix2 e n) := by
  unfold project
  pointwise

/-- A row's context under a head, whose scores are `σ` and values `v`. -/
def row (i : Fin 4096) (σ v : Fin 512 → EReal) : EReal :=
  ∑ j, v j * Ideal.div (Ideal.exp ((if decide (i.val / 64 % 4 = j.val / 64 % 4) then σ j else ⊥)
      - Finset.univ.fold max ⊥ fun j : Fin 512 => if decide (i.val / 64 % 4 = j.val / 64 % 4) then σ j else ⊥))
    (∑ j : Fin 512, Ideal.exp ((if decide (i.val / 64 % 4 = j.val / 64 % 4) then σ j else ⊥)
      - Finset.univ.fold max ⊥ fun j : Fin 512 => if decide (i.val / 64 % 4 = j.val / 64 % 4) then σ j else ⊥))

/-- The reference's result. -/
theorem out_at (x : FVec Ideal S2x4096x768 .f32) (wq : FVec Ideal S768x4096 .f32) (k v : FVec Ideal S2x512x64x64 .f32)
    (wo : FVec Ideal S4096x768 .f32) (b : Fin 2) (i : Fin 4096) (n : Fin 768) :
    out x wq k v wo (ix3 b i n) = ∑ e : Fin 4096,
      row i (score x wq k b ⟨e.val / 64, by omega⟩ i) (fun j => v (ix4 b j ⟨e.val / 64, by omega⟩ ⟨e.val % 64, by omega⟩)) * wo (ix2 e n) := by
  unfold out
  rw [project_at]
  simp only [weights_at, expo_at, masked_at, scores_at]
  rfl

end Cert.ReferenceIdeal.Stage
-- ==== Proof.Softmax.lean ====
module

public import Idealize.ShloMosaic.Lib.Pointwise
public import Mathlib.Data.EReal.Operations

/-! # Attention over one row of scores

A row's scores are real numbers, some of its keys masked out and at least one kept. The kernel divides the weighted sum of
the values by the sum of the exponentials; the reference first subtracts the row's greatest score, then divides each
exponential, then takes the weighted sum. Both are the same extended real, whatever the values. -/

@[expose] public section

noncomputable section

namespace Cert.Attention

open Idealize.ShloMosaic

/-- Multiplying a sum by a nonnegative real from the right. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The weight of a key before the division: its exponential if it is kept, nothing if it is masked out. -/
def weight {n : ℕ} (σ : Fin n → ℝ) (M : Fin n → Bool) (j : Fin n) : ℝ := if M j then Real.exp (σ j) else 0

variable {n : ℕ} (σ : Fin n → ℝ) (M : Fin n → Bool)

theorem weight_nonneg (j : Fin n) : 0 ≤ weight σ M j := by
  unfold weight; split <;> positivity

theorem weight_sum_pos (j₀ : Fin n) (h₀ : M j₀ = true) : 0 < ∑ j, weight σ M j :=
  Finset.sum_pos' (fun j _ => weight_nonneg σ M j) ⟨j₀, Finset.mem_univ _, by simp [weight, h₀, Real.exp_pos]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's exponential is the weight. -/
theorem exp_bias (j : Fin n) : Ideal.exp ((σ j : EReal) + if M j then 0 else ⊥) = (weight σ M j : EReal) := by
  unfold weight
  split
  · rw [add_zero]; rfl
  · rw [EReal.add_bot]; rfl

/-- The reference's greatest score is a real number. -/
theorem max_real (j₀ : Fin n) (h₀ : M j₀ = true) :
    ∃ μ : ℝ, (Finset.univ.fold max (⊥ : EReal) fun j => if M j then (σ j : EReal) else ⊥) = μ := by
  set f : Fin n → EReal := fun j => if M j then (σ j : EReal) else ⊥
  have h1 : Finset.univ.fold max (⊥ : EReal) f ≠ ⊤ := by
    refine ne_of_lt ((Finset.fold_max_lt _).mpr ⟨bot_lt_top, fun j _ => ?_⟩)
    simp only [f]; split
    · exact EReal.coe_lt_top _
    · exact bot_lt_top
  have h2 : Finset.univ.fold max (⊥ : EReal) f ≠ ⊥ := by
    refine ne_of_gt (lt_of_lt_of_le (EReal.bot_lt_coe (σ j₀)) ((Finset.le_fold_max _).mpr (.inr ⟨j₀, Finset.mem_univ _, ?_⟩)))
    simp [f, h₀]
  exact ⟨_, (EReal.coe_toReal h1 h2).symm⟩

/-- The reference's exponential is the weight scaled by the same positive number at every key. -/
theorem exp_sub (μ : ℝ) (j : Fin n) :
    Ideal.exp ((if M j then (σ j : EReal) else ⊥) - (μ : EReal)) = ((weight σ M j * Real.exp (-μ) : ℝ) : EReal) := by
  unfold weight
  split
  · rw [← EReal.coe_sub, sub_eq_add_neg, ← Real.exp_add]; rfl
  · rw [EReal.bot_sub, zero_mul]; rfl

/-- What the kernel computes of a row, told with real weights. -/
theorem kernel_row (v : Fin n → EReal) (j₀ : Fin n) (h₀ : M j₀ = true) :
    Ideal.div (∑ j, Ideal.exp ((σ j : EReal) + if M j then 0 else ⊥) * v j) (∑ j, Ideal.exp ((σ j : EReal) + if M j then 0 else ⊥))
      = ∑ j, v j * ((weight σ M j / ∑ j, weight σ M j : ℝ) : EReal) := by
  simp only [exp_bias]
  rw [← coe_sum]
  have hpos := weight_sum_pos σ M j₀ h₀
  generalize (∑ j, weight σ M j) = E at hpos ⊢
  rw [show Ideal.div (∑ j, (weight σ M j : EReal) * v j) (E : EReal) = (∑ j, (weight σ M j : EReal) * v j) * ((E⁻¹ : ℝ) : EReal) from by
    unfold Ideal.div; rw [if_neg (by exact_mod_cast hpos.ne')]; rfl]
  rw [sum_mul_real _ _ _ (by positivity)]
  refine Finset.sum_congr rfl fun j _ => ?_
  rw [div_eq_mul_inv, EReal.coe_mul, mul_comm (weight σ M j : EReal), mul_assoc]

/-- What the reference computes of a row, told with the same weights. -/
theorem reference_row (v : Fin n → EReal) (j₀ : Fin n) (h₀ : M j₀ = true) (μ : EReal)
    (hμ : μ = Finset.univ.fold max (⊥ : EReal) fun j => if M j then (σ j : EReal) else ⊥) :
    (∑ j, v j * Ideal.div (Ideal.exp ((if M j then (σ j : EReal) else ⊥) - μ)) (∑ j, Ideal.exp ((if M j then (σ j : EReal) else ⊥) - μ)))
      = ∑ j, v j * ((weight σ M j / ∑ j, weight σ M j : ℝ) : EReal) := by
  obtain ⟨μ', h⟩ := max_real σ M j₀ h₀
  rw [h] at hμ
  subst hμ
  simp only [exp_sub]
  rw [← coe_sum, ← Finset.sum_mul]
  have hpos := weight_sum_pos σ M j₀ h₀
  generalize (∑ j, weight σ M j) = E at hpos ⊢
  refine Finset.sum_congr rfl fun j _ => congrArg _ ?_
  rw [Ideal.div_coe (mul_pos hpos (Real.exp_pos _)).ne', ← EReal.coe_mul, mul_one_div, mul_div_mul_right _ _ (Real.exp_pos _).ne']

/-- The kernel's row is the reference's. -/
theorem row_eq (v : Fin n → EReal) (j₀ : Fin n) (h₀ : M j₀ = true) :
    Ideal.div (∑ j, Ideal.exp ((σ j : EReal) + if M j then 0 else ⊥) * v j) (∑ j, Ideal.exp ((σ j : EReal) + if M j then 0 else ⊥))
      = ∑ j, v j * Ideal.div (Ideal.exp ((if M j then (σ j : EReal) else ⊥)
            - Finset.univ.fold max (⊥ : EReal) fun j => if M j then (σ j : EReal) else ⊥))
          (∑ j, Ideal.exp ((if M j then (σ j : EReal) else ⊥) - Finset.univ.fold max (⊥ : EReal) fun j => if M j then (σ j : EReal) else ⊥)) :=
  (kernel_row σ M v j₀ h₀).trans (reference_row σ M v j₀ h₀ _ rfl).symm

end Cert.Attention
-- ==== Proof.Equation.lean ====
module

public import proofs.«01_k».proof.Proof.KernelValue
public import proofs.«01_k».proof.Proof.RefValue
public import proofs.«01_k».proof.Proof.Softmax
public import Idealize.ShloMosaic.Lib.Layout

/-! # The kernel's block is the reference's

Where the devices hold blocks of one set of arrays, chunk `r`'s heads on a device are heads `8r` to `8r + 7` of the reference on
the device's rows, and the sum over the chunks is the reference's sum over all 4096 columns of the context. -/

@[expose] public section

noncomputable section

namespace Cert.Attention

open Idealize.ShloMosaic Idealize.ShloMosaic.TcCoe
open Cert.KernelIdeal.Ring (aX aQ aK aV aO part ctxAt res held0)
open Cert.ReferenceIdeal (Stage.score Stage.row Stage.out)

abbrev W3 : Shape := ⟨3, ![2, 4096, 768]⟩
abbrev W2 : Shape := ⟨2, ![768, 4096]⟩
abbrev WO : Shape := ⟨2, ![4096, 768]⟩
abbrev B3 : Shape := ⟨3, ![2, 512, 768]⟩
abbrev B2 : Shape := ⟨2, ![768, 512]⟩
abbrev BO : Shape := ⟨2, ![512, 768]⟩
abbrev H4 : Shape := ⟨4, ![2, 512, 64, 64]⟩

/-- Products and finite sums of real numbers are real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

@[inherit_doc real_mul] theorem real_sum {n : ℕ} (f : Fin n → EReal) (h : ∀ i, ∃ r : ℝ, f i = r) : ∃ r : ℝ, ∑ i, f i = r := by
  choose g hg using h
  exact ⟨∑ i, g i, by rw [coe_sum]; exact Finset.sum_congr rfl fun i _ => hg i⟩

/-- Position `t` of block `r` of eight blocks of 512. -/
def pos (r : Fin 8) (t : Fin 512) : Fin 4096 := ⟨r.val * 512 + t.val, by omega⟩

/-- Rows of the activations, columns of `Wq` and rows of `Wo`, where a device's block has them. -/
theorem block_x (X : W3.Idx → EReal) (c : Fin 8) (b : Fin 2) (i : Fin 512) (d : Fin 768) :
    Layout.block B3 W3 1 8 c X (by decide) (ix3 b i d) = X (ix3 b (pos c i) d) :=
  congrArg X (by funext a; fin_cases a <;> rfl)
theorem block_q (X : W2.Idx → EReal) (c : Fin 8) (d : Fin 768) (e : Fin 512) :
    Layout.block B2 W2 1 8 c X (by decide) (ix2 d e) = X (ix2 d (pos c e)) :=
  congrArg X (by funext a; fin_cases a <;> rfl)
theorem block_o (X : WO.Idx → EReal) (c : Fin 8) (e : Fin 512) (n : Fin 768) :
    Layout.block BO WO 0 8 c X (by decide) (ix2 e n) = X (ix2 (pos c e) n) :=
  congrArg X (by funext a; fin_cases a <;> rfl)

/-- The devices hold blocks of one set of arrays, and those that make the scores are real. -/
structure Held (m : (ℓ : Loc KernelIdeal.nD KernelIdeal.τ KernelIdeal.sig) → Buf (Elt Ideal) ℓ)
    (X : W3.Idx → EReal) (Q : W2.Idx → EReal) (K V : H4.Idx → EReal) (O : WO.Idx → EReal) : Prop where
  x : ∀ c b i d, aX m c (ix3 b i d) = X (ix3 b (pos c i) d)
  q : ∀ c d e, aQ m c (ix2 d e) = Q (ix2 d (pos c e))
  k : ∀ c, aK m c = K
  v : ∀ c, aV m c = V
  o : ∀ c e n, aO m c (ix2 e n) = O (ix2 (pos c e) n)
  rx : ∀ c b i d, ∃ r : ℝ, aX m c (ix3 b i d) = r
  rq : ∀ c d e, ∃ r : ℝ, aQ m c (ix2 d e) = r
  rk : ∀ c b j h d, ∃ r : ℝ, aK m c (ix4 b j h d) = r

variable {m : (ℓ : Loc KernelIdeal.nD KernelIdeal.τ KernelIdeal.sig) → Buf (Elt Ideal) ℓ}
  {X : W3.Idx → EReal} {Q : W2.Idx → EReal} {K V : H4.Idx → EReal} {O : WO.Idx → EReal}

/-- The head and the column in the head of position `e` of chunk `r`. -/
def hd (r : Fin 8) (e : Fin 512) : Fin 64 := ⟨(pos r e).val / 64, by have := (pos r e).isLt; omega⟩
@[inherit_doc hd] def cl (r : Fin 8) (e : Fin 512) : Fin 64 := ⟨(pos r e).val % 64, by omega⟩

/-- The kernel's chunks of the queries, the keys and the values. -/
def kq (m : (ℓ : Loc KernelIdeal.nD KernelIdeal.τ KernelIdeal.sig) → Buf (Elt Ideal) ℓ) (c r : Fin 8) (b : Fin 2) :
    KernelIdeal.S512x512.Idx → EReal := fun y => ∑ d : Fin 768, aX m c (ix3 b (y 0) d) * aQ m r (ix2 d (y 1))
@[inherit_doc kq] def kk (m : (ℓ : Loc KernelIdeal.nD KernelIdeal.τ KernelIdeal.sig) → Buf (Elt Ideal) ℓ) (c r : Fin 8) (b : Fin 2) :
    KernelIdeal.S512x512.Idx → EReal := fun y => aK m c (ix4 b (y 0)
      ⟨r.val * 8 + (y 1).val / 64, by have : (y 1).val < 512 := (y 1).isLt; omega⟩ ⟨(y 1).val % 64, by omega⟩)
@[inherit_doc kq] def kv (m : (ℓ : Loc KernelIdeal.nD KernelIdeal.τ KernelIdeal.sig) → Buf (Elt Ideal) ℓ) (c r : Fin 8) (b : Fin 2) :
    KernelIdeal.S512x512.Idx → EReal := fun y => aV m c (ix4 b (y 0)
      ⟨r.val * 8 + (y 1).val / 64, by have : (y 1).val < 512 := (y 1).isLt; omega⟩ ⟨(y 1).val % 64, by omega⟩)

/-- A chunk's score is the reference's under the chunk's head. -/
theorem score_eq (H : Held m X Q K V O) (c r : Fin 8) (b : Fin 2) (i e j : Fin 512) :
    KernelIdeal.Ring.score (kq m c r b) (kk m c r b) _ (KernelIdeal.Ring.block_le e) i j
      = Stage.score X Q K b (hd r e) (pos c i) j := by
  unfold KernelIdeal.Ring.score Stage.score
  refine congrArg (· * _) (Finset.sum_congr rfl fun d _ => congrArg₂ (fun s t : EReal => s * t) ?_ ?_)
  · refine Finset.sum_congr rfl fun a _ => congrArg₂ (fun s t : EReal => s * t) (H.x c b i a) ?_
    refine (H.q r a _).trans (congrArg (fun p => Q (ix2 a p)) (Fin.ext ?_))
    show r.val * 512 + (e.val / 64 * 64 + d.val) = (r.val * 512 + e.val) / 64 * 64 + d.val
    omega
  · show aK m c _ = _
    rw [H.k]
    refine congrArg₂ (fun p q => K (ix4 b j p q)) (Fin.ext ?_) (Fin.ext ?_)
    · show r.val * 8 + (e.val / 64 * 64 + d.val) / 64 = (r.val * 512 + e.val) / 64
      omega
    · show (e.val / 64 * 64 + d.val) % 64 = d.val
      omega

/-- A chunk's score is a real number. -/
theorem score_real (H : Held m X Q K V O) (c r : Fin 8) (b : Fin 2) (i e j : Fin 512) :
    ∃ s : ℝ, KernelIdeal.Ring.score (kq m c r b) (kk m c r b) _ (KernelIdeal.Ring.block_le e) i j = s :=
  real_mul (real_sum _ fun _ => real_mul (real_sum _ fun _ => real_mul (H.rx ..) (H.rq ..)) (H.rk ..)) ⟨1 / 8, rfl⟩

/-- A chunk's context is the reference's. -/
theorem ctx_eq (H : Held m X Q K V O) (c r : Fin 8) (b : Fin 2) (i e : Fin 512) :
    ctxAt (fun y => if decide ((y 0).val / 64 % 4 = (y 1).val / 64 % 4) then (0 : EReal) else ⊥) (kq m c r b) (kk m c r b) (kv m c r b) i e
      = Stage.row (pos c i) (Stage.score X Q K b (hd r e) (pos c i)) (fun j => V (ix4 b j (hd r e) (cl r e))) := by
  choose σ hσ using score_real H c r b i e
  have hs : Stage.score X Q K b (hd r e) (pos c i) = fun j => (σ j : EReal) := funext fun j => (score_eq H c r b i e j).symm.trans (hσ j)
  have hv : ∀ j : Fin 512, kv m c r b (ix2 j e) = V (ix4 b j (hd r e) (cl r e)) := fun j => by
    show aV m c _ = _
    rw [H.v]
    refine congrArg₂ (fun p q => V (ix4 b j p q)) (Fin.ext ?_) (Fin.ext ?_)
    · show r.val * 8 + e.val / 64 = (r.val * 512 + e.val) / 64
      omega
    · show e.val % 64 = (r.val * 512 + e.val) % 64
      omega
  have hm : ∀ j : Fin 512, (decide ((pos c i).val / 64 % 4 = j.val / 64 % 4)) = decide (i.val / 64 % 4 = j.val / 64 % 4) := fun j => by
    have : (c.val * 512 + i.val) / 64 % 4 = i.val / 64 % 4 := by omega
    show decide ((c.val * 512 + i.val) / 64 % 4 = _) = _
    rw [this]
  unfold ctxAt Stage.row
  simp only [hσ, hv, hs, hm]
  exact row_eq σ (fun j => decide (i.val / 64 % 4 = j.val / 64 % 4)) (fun j => V (ix4 b j (hd r e) (cl r e)))
    ⟨i.val / 64 % 4 * 64, by omega⟩ (decide_eq_true (by show i.val / 64 % 4 = i.val / 64 % 4 * 64 / 64 % 4; omega))

/-- A device's block of the result is the reference's. -/
theorem block_eq (H : Held m X Q K V O) (c : Fin 8) (b : Fin 2) (i : Fin 512) (n : Fin 768) :
    (res (held0 m) c : B3.Idx → EReal) (ix3 b i n) = Stage.out (F := Ideal) X Q K V O (ix3 b (pos c i) n) := by
  refine (KernelIdeal.Ring.res_at m c b i n).trans ?_
  rw [ReferenceIdeal.Stage.out_at, Fin.sum_univ_tiles 8 512 rfl]
  exact Finset.sum_congr rfl fun r _ => Finset.sum_congr rfl fun e _ =>
    congrArg₂ (fun s t : EReal => s * t) (ctx_eq H c r b i e) (H.o r e n)

end Cert.Attention
-- ==== Proof.Finite.lean ====
module

public import proofs.«01_k».proof.Defs
public import proofs.«01_k».proof.Proof.Equation

/-! # The launch's arrays under the precondition

An extended real whose absolute value is below `⊤` is a real number; the arrays of a launch that meets the claim's hypotheses are
`Held`. -/

@[expose] public section

noncomputable section

namespace Cert.Attention

open Idealize.ShloMosaic Idealize.ShloMosaic.TcCoe
open Cert.KernelIdeal.Ring (aX aQ aK aV aO res held0)

/-- The predicates' shape facts. -/
theorem facts_k : Cert.Pre_finite_KernelIdeal.Facts where
  bcast_S_S2x512x768 := by decide
  bcast_S_S768x512 := by decide
  bcast_S_S2x512x64x64 := by decide
@[inherit_doc facts_k] theorem facts_r : Cert.Pre_finite_ReferenceIdeal.Facts where
  bcast_S_S2x4096x768 := by decide
  bcast_S_S768x4096 := by decide
  bcast_S_S2x512x64x64 := by decide

/-- The predicate's infinity. -/
theorem pinf : Ideal.ofBits .f32 0x7F800000#32 = ⊤ := by
  simp [Ideal.ofBits, Ideal.ieee]

/-- An element that compares below infinity is real. -/
theorem real_of_lt {s : Shape} (x : s.Idx → EReal) (B : FVec Ideal s .f32) (hB : ∀ j, B j = (⊤ : EReal))
    (h : cmpf .olt (Host.absf (F := Ideal) (φ := .f32) x) B = fun _ => 1#1) (j : s.Idx) : ∃ r : ℝ, x j = r := by
  have h1 : BitVec.ofBool (decide (max (x j) (-(x j)) < B j)) = 1#1 := congrFun h j
  rw [hB] at h1
  have h2 : max (x j) (-(x j)) < ⊤ := by
    by_contra hn
    rw [decide_eq_false hn] at h1
    exact absurd h1 (by decide)
  have ht : x j ≠ ⊤ := ((le_max_left _ _).trans_lt h2).ne
  have hb : x j ≠ ⊥ := fun e => by
    have := (le_max_right (x j) (-(x j))).trans_lt h2
    rw [e] at this
    exact absurd this (by simp)
  exact ⟨(x j).toReal, (EReal.coe_toReal ht hb).symm⟩

/-- What the precondition says of the arrays it reads. -/
theorem reals [Cert.Pre_finite_KernelIdeal.Facts] (x : B3.Idx → EReal) (q : B2.Idx → EReal) (k v : H4.Idx → EReal) (o : BO.Idx → EReal)
    (h : (Cert.Pre_finite_KernelIdeal.fn (F := Ideal) x q k v o).1 = (fun _ => 1#1)
      ∧ (Cert.Pre_finite_KernelIdeal.fn (F := Ideal) x q k v o).2.1 = (fun _ => 1#1)
      ∧ (Cert.Pre_finite_KernelIdeal.fn (F := Ideal) x q k v o).2.2 = (fun _ => 1#1)) :
    (∀ j, ∃ r : ℝ, x j = r) ∧ (∀ j, ∃ r : ℝ, q j = r) ∧ ∀ j, ∃ r : ℝ, k j = r :=
  ⟨real_of_lt x _ (fun _ => pinf) h.1, real_of_lt q _ (fun _ => pinf) h.2.1, real_of_lt k _ (fun _ => pinf) h.2.2⟩

/-- The reference's arguments. -/
def wX (m' : (ℓ : Loc ReferenceIdeal.nD ReferenceIdeal.τ ReferenceIdeal.sig) → Buf (Elt Ideal) ℓ) : W3.Idx → EReal :=
  m' (((0 : Dev ReferenceIdeal.nD).tc : Thread ReferenceIdeal.nD ReferenceIdeal.τ).loc ReferenceIdeal.main_arg0)
@[inherit_doc wX] def wQ (m' : (ℓ : Loc ReferenceIdeal.nD ReferenceIdeal.τ ReferenceIdeal.sig) → Buf (Elt Ideal) ℓ) : W2.Idx → EReal :=
  m' (((0 : Dev ReferenceIdeal.nD).tc : Thread ReferenceIdeal.nD ReferenceIdeal.τ).loc ReferenceIdeal.main_arg1)
@[inherit_doc wX] def wK (m' : (ℓ : Loc ReferenceIdeal.nD ReferenceIdeal.τ ReferenceIdeal.sig) → Buf (Elt Ideal) ℓ) : H4.Idx → EReal :=
  m' (((0 : Dev ReferenceIdeal.nD).tc : Thread ReferenceIdeal.nD ReferenceIdeal.τ).loc ReferenceIdeal.main_arg2)
@[inherit_doc wX] def wV (m' : (ℓ : Loc ReferenceIdeal.nD ReferenceIdeal.τ ReferenceIdeal.sig) → Buf (Elt Ideal) ℓ) : H4.Idx → EReal :=
  m' (((0 : Dev ReferenceIdeal.nD).tc : Thread ReferenceIdeal.nD ReferenceIdeal.τ).loc ReferenceIdeal.main_arg3)
@[inherit_doc wX] def wO (m' : (ℓ : Loc ReferenceIdeal.nD ReferenceIdeal.τ ReferenceIdeal.sig) → Buf (Elt Ideal) ℓ) : WO.Idx → EReal :=
  m' (((0 : Dev ReferenceIdeal.nD).tc : Thread ReferenceIdeal.nD ReferenceIdeal.τ).loc ReferenceIdeal.main_arg4)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

/-- Under the claim's hypotheses the devices hold blocks of the reference's arrays. -/
theorem held [Cert.Pre_finite_KernelIdeal.Facts] (hp : Cert.Pre_KernelIdeal_finite_KernelIdeal m)
    (h : ∀ c : Fin 8, aX m c = Layout.block B3 W3 1 8 c (wX m') (by decide) ∧ aQ m c = Layout.block B2 W2 1 8 c (wQ m') (by decide)
      ∧ aK m c = wK m' ∧ aV m c = wV m' ∧ aO m c = Layout.block BO WO 0 8 c (wO m') (by decide)) :
    Held m (wX m') (wQ m') (wK m') (wV m') (wO m') where
  x c b i d := (congrFun (h c).1 _).trans (block_x _ c b i d)
  q c d e := (congrFun (h c).2.1 _).trans (block_q _ c d e)
  k c := (h c).2.2.1
  v c := (h c).2.2.2.1
  o c e n := (congrFun (h c).2.2.2.2 _).trans (block_o _ c e n)
  rx c _ _ _ := (reals _ _ _ _ _ (hp c)).1 _
  rq c _ _ := (reals _ _ _ _ _ (hp c)).2.1 _
  rk c _ _ _ _ := (reals _ _ _ _ _ (hp c)).2.2 _

/-- Each device's result is its block of the reference's. -/
theorem res_block (H : Held m (wX m') (wQ m') (wK m') (wV m') (wO m')) (c : Fin 8) :
    (res (held0 m) c : B3.Idx → EReal)
      = Layout.block B3 W3 1 8 c (ReferenceIdeal.Value.res_main_v39 m' (0 : Dev ReferenceIdeal.nD) : W3.Idx → EReal) (by decide) := by
  funext y
  obtain ⟨b, i, n, rfl⟩ : ∃ b i n, y = ix3 b i n := ⟨y 0, y 1, y 2, by idx_ext⟩
  rw [block_x]
  refine (block_eq H c b i n).trans (congrFun ?_ (ix3 b (pos c i) n))
  exact (ReferenceIdeal.Stage.res_eq m' 0).symm

end Cert.Attention
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Finite
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs and leaves its arguments; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is read as −∞. -/
theorem preserves : Cert.preserves_Kernel_KernelIdeal :=
  IdealRules.named_const.statement Cert.KernelIdeal.κ "mask" .f32 0xCE6E6B28#32 ⊥ rfl

/-- Each device's result is its block of the reference's. -/
theorem algebraic : Cert.algebraic_KernelIdeal_ReferenceIdeal_pre_finite_KernelIdeal
    (hPre_finite_KernelIdeal := Cert.Attention.facts_k) := fun m g m' g' hp h =>
  have H := @Cert.Attention.held m m' Cert.Attention.facts_k hp h
  ⟨Cert.ReferenceIdeal.Value.res_main_v39 m' 0,
    (θ_run Cert.KernelIdeal.defs _ _).mono
      (fun _ e c => ⟨(e.1 c).1.trans (Cert.Attention.res_block H c), (e.1 c).2⟩)
      (Cert.KernelIdeal.Ring.run_main (F := Ideal) m g),
    (θ_run Cert.ReferenceIdeal.defs _ _).mono (fun _ e => e 0) (Cert.ReferenceIdeal.Value.run (F := Ideal) m' g')⟩

theorem claim : Cert.Claim := ⟨Cert.Kernel.Gen.facts, Cert.KernelIdeal.Gen.facts, Cert.ReferenceIdeal.Gen.facts,
  Cert.Attention.facts_k, Cert.Attention.facts_r,
  frame_kernel, frame_kernelIdeal, fun m g _ => frame_kernelIdeal m g trivial, frame_referenceIdeal,
  fun m g _ => frame_referenceIdeal m g trivial, preserves, algebraic⟩

end Cert.Proof

end
